-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_precondition [hPre_precondition : Cert.Pre_precondition.Facts] (m : (ℓ : Loc Cert.KernelIdeal.nD Cert.KernelIdeal.τ Cert.KernelIdeal.sig) → Buf (Elt Ideal) ℓ) : Prop :=
  ∀ c : Dev Cert.KernelIdeal.nD,
    (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2.1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_precondition [hPre_precondition : Cert.Pre_precondition.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2.1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_precondition [hKernelIdeal : Cert.KernelIdeal.Facts] [hPre_precondition : Cert.Pre_precondition.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_precondition m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_precondition [hReferenceIdeal : Cert.ReferenceIdeal.Facts] [hPre_precondition : Cert.Pre_precondition.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_precondition m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_precondition [hKernelIdeal : Cert.KernelIdeal.Facts] [hReferenceIdeal : Cert.ReferenceIdeal.Facts] [hPre_precondition : Cert.Pre_precondition.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_precondition m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_precondition : Cert.Pre_precondition.Facts),
    quiescent_Kernel (hKernel := hKernel)
    ∧ quiescent_KernelIdeal (hKernelIdeal := hKernelIdeal)
    ∧ quiescent_KernelIdeal_pre_precondition (hKernelIdeal := hKernelIdeal) (hPre_precondition := hPre_precondition)
    ∧ quiescent_ReferenceIdeal (hReferenceIdeal := hReferenceIdeal)
    ∧ quiescent_ReferenceIdeal_pre_precondition (hReferenceIdeal := hReferenceIdeal) (hPre_precondition := hPre_precondition)
    ∧ preserves_Kernel_KernelIdeal
    ∧ algebraic_KernelIdeal_ReferenceIdeal_pre_precondition (hKernelIdeal := hKernelIdeal) (hReferenceIdeal := hReferenceIdeal) (hPre_precondition := hPre_precondition)
-- ==== Pre_precondition.lean ====
abbrev S16x512x32 : Shape := ⟨3, ![16, 512, 32]⟩
abbrev S16x512x3 : Shape := ⟨3, ![16, 512, 3]⟩
abbrev S32x1024 : Shape := ⟨2, ![32, 1024]⟩
abbrev S1024 : Shape := ⟨1, ![1024]⟩
abbrev S24x1024 : Shape := ⟨2, ![24, 1024]⟩
abbrev S7x1024 : Shape := ⟨2, ![7, 1024]⟩
abbrev S12x1024 : Shape := ⟨2, ![12, 1024]⟩
abbrev S1x1000x1024 : Shape := ⟨3, ![1, 1000, 1024]⟩
abbrev S3x1024x1024 : Shape := ⟨3, ![3, 1024, 1024]⟩
abbrev S1024x1024 : Shape := ⟨2, ![1024, 1024]⟩
abbrev S512 : Shape := ⟨1, ![512]⟩
abbrev S3 : Shape := ⟨1, ![3]⟩
abbrev S16x512x1024 : Shape := ⟨3, ![16, 512, 1024]⟩
abbrev S1x1x1024 : Shape := ⟨3, ![1, 1, 1024]⟩
abbrev S16x512x1 : Shape := ⟨3, ![16, 512, 1]⟩
abbrev S16x512 : Shape := ⟨2, ![16, 512]⟩
abbrev S_ : Shape := ⟨0, ![]⟩
abbrev S1 : Shape := ⟨1, ![1]⟩
abbrev S1x1x1 : Shape := ⟨3, ![1, 1, 1]⟩
abbrev S1x512x1024 : Shape := ⟨3, ![1, 512, 1024]⟩
abbrev S16x1x1024 : Shape := ⟨3, ![16, 1, 1024]⟩
abbrev S16x511x1024 : Shape := ⟨3, ![16, 511, 1024]⟩
abbrev S1x1024x1024 : Shape := ⟨3, ![1, 1024, 1024]⟩
abbrev S16x512x16x64 : Shape := ⟨4, ![16, 512, 16, 64]⟩
abbrev S16x16x512x64 : Shape := ⟨4, ![16, 16, 512, 64]⟩
abbrev S512x1 : Shape := ⟨2, ![512, 1]⟩
abbrev S16x16x512x512 : Shape := ⟨4, ![16, 16, 512, 512]⟩
abbrev S16x16x512 : Shape := ⟨3, ![16, 16, 512]⟩
abbrev S16x16x32 : Shape := ⟨3, ![16, 16, 32]⟩
abbrev S1x1x3 : Shape := ⟨3, ![1, 1, 3]⟩
abbrev S16x16x31 : Shape := ⟨3, ![16, 16, 31]⟩

class Facts : Prop where
  bcast_S1024_S1x1x1024_2 : S1024.BroadcastsInDim S1x1x1024 (![2] : Fin 1 → Fin S1x1x1024.rank)
  bcast_S1x1x1024_S16x512x1024_0_1_2 : S1x1x1024.BroadcastsInDim S16x512x1024 (![0, 1, 2] : Fin 3 → Fin S16x512x1024.rank)
  slices_S16x512x3_S16x512x1_0_0_0 : S16x512x3.Slices ![0, 0, 0] S16x512x1
  shapeCasts_S16x512x1_S16x512 : S16x512x1.ShapeCasts S16x512
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  h_S_ : 0 < S_.numel
  bcast_S16x512_S16x512x1024_0_1 : S16x512.BroadcastsInDim S16x512x1024 (![0, 1] : Fin 2 → Fin S16x512x1024.rank)
  bcast_S_S16x512x1024 : S_.BroadcastsInDim S16x512x1024 (![] : Fin 0 → Fin S16x512x1024.rank)
  slices_S16x512x3_S16x512x1_0_0_1 : S16x512x3.Slices ![0, 0, 1] S16x512x1
  slices_S16x512x3_S16x512x1_0_0_2 : S16x512x3.Slices ![0, 0, 2] S16x512x1
  slices_S1x1000x1024_S1x512x1024_0_0_0 : S1x1000x1024.Slices ![0, 0, 0] S1x512x1024
  bcast_S1x512x1024_S16x512x1024_0_1_2 : S1x512x1024.BroadcastsInDim S16x512x1024 (![0, 1, 2] : Fin 3 → Fin S16x512x1024.rank)
  bcast_S_S16x1x1024 : S_.BroadcastsInDim S16x1x1024 (![] : Fin 0 → Fin S16x1x1024.rank)
  slices_S16x512x1024_S16x511x1024_0_0_0 : S16x512x1024.Slices ![0, 0, 0] S16x511x1024
  concatenates_S16x1x1024_S16x511x1024_S16x512x1024_d1 : Shape.Concatenates [S16x1x1024, S16x511x1024] S16x512x1024 1
  slices_S3x1024x1024_S1x1024x1024_0_0_0 : S3x1024x1024.Slices ![0, 0, 0] S1x1024x1024
  shapeCasts_S1x1024x1024_S1024x1024 : S1x1024x1024.ShapeCasts S1024x1024
  slices_S3x1024x1024_S1x1024x1024_1_0_0 : S3x1024x1024.Slices ![1, 0, 0] S1x1024x1024
  slices_S16x512x1024_S16x511x1024_0_1_0 : S16x512x1024.Slices ![0, 1, 0] S16x511x1024
  concatenates_S16x511x1024_S16x1x1024_S16x512x1024_d1 : Shape.Concatenates [S16x511x1024, S16x1x1024] S16x512x1024 1
  slices_S3x1024x1024_S1x1024x1024_2_0_0 : S3x1024x1024.Slices ![2, 0, 0] S1x1024x1024
  shapeCasts_S16x512x1024_S16x512x16x64 : S16x512x1024.ShapeCasts S16x512x16x64
  transposes_S16x512x16x64_S16x16x512x64_0_2_1_3 : S16x512x16x64.Transposes [0, 2, 1, 3] S16x16x512x64
  bcast_S_S512 : S_.BroadcastsInDim S512 (![] : Fin 0 → Fin S512.rank)
  bcast_S512_S512x1_0 : S512.BroadcastsInDim S512x1 (![0] : Fin 1 → Fin S512x1.rank)
  reducesTo_S16x16x512x512_S16x16x512_d3 : S16x16x512x512.ReducesTo [3] S16x16x512
  bcast_S_S16x16x512 : S_.BroadcastsInDim S16x16x512 (![] : Fin 0 → Fin S16x16x512.rank)
  sliceFits_S16x16x512_S16x16x32 : S16x16x512.Slices (fun _ => 0) S16x16x32
  bcast_S_S16x512x3 : S_.BroadcastsInDim S16x512x3 (![] : Fin 0 → Fin S16x512x3.rank)
  bcast_S3_S1x1x3_2 : S3.BroadcastsInDim S1x1x3 (![2] : Fin 1 → Fin S1x1x3.rank)
  bcast_S1x1x3_S16x512x3_0_1_2 : S1x1x3.BroadcastsInDim S16x512x3 (![0, 1, 2] : Fin 3 → Fin S16x512x3.rank)
  slices_S16x16x32_S16x16x31_0_0_1 : S16x16x32.Slices ![0, 0, 1] S16x16x31
  slices_S16x16x32_S16x16x31_0_0_0 : S16x16x32.Slices ![0, 0, 0] S16x16x31
  bcast_S_S16x512x32 : S_.BroadcastsInDim S16x512x32 (![] : Fin 0 → Fin S16x512x32.rank)
  bcast_S_S32x1024 : S_.BroadcastsInDim S32x1024 (![] : Fin 0 → Fin S32x1024.rank)
  bcast_S_S1024 : S_.BroadcastsInDim S1024 (![] : Fin 0 → Fin S1024.rank)
  bcast_S_S24x1024 : S_.BroadcastsInDim S24x1024 (![] : Fin 0 → Fin S24x1024.rank)
  bcast_S_S7x1024 : S_.BroadcastsInDim S7x1024 (![] : Fin 0 → Fin S7x1024.rank)
  bcast_S_S12x1024 : S_.BroadcastsInDim S12x1024 (![] : Fin 0 → Fin S12x1024.rank)
  bcast_S_S1x512x1024 : S_.BroadcastsInDim S1x512x1024 (![] : Fin 0 → Fin S1x512x1024.rank)
  bcast_S_S3x1024x1024 : S_.BroadcastsInDim S3x1024x1024 (![] : Fin 0 → Fin S3x1024x1024.rank)
  bcast_S_S1024x1024 : S_.BroadcastsInDim S1024x1024 (![] : Fin 0 → Fin S1024x1024.rank)
  dot_S16x512x32_S32x1024_S16x512x1024_2_0_01_1_n_n_wf : DotDims.WF S16x512x32 S32x1024 S16x512x1024 [2] [0] [0, 1] [1] [] []
  gather_S24x1024_S16x512x1_S16x512x1024_2_0_n_n_0_2_11024_wf : GatherDims.WF S24x1024 S16x512x1 S16x512x1024 [2] [0] [] [0] [] 2 ![1, 1024]
  gather_S7x1024_S16x512x1_S16x512x1024_2_0_n_n_0_2_11024_wf : GatherDims.WF S7x1024 S16x512x1 S16x512x1024 [2] [0] [] [0] [] 2 ![1, 1024]
  gather_S12x1024_S16x512x1_S16x512x1024_2_0_n_n_0_2_11024_wf : GatherDims.WF S12x1024 S16x512x1 S16x512x1024 [2] [0] [] [0] [] 2 ![1, 1024]
  dot_S16x512x1024_S1024x1024_S16x512x1024_2_0_01_1_n_n_wf : DotDims.WF S16x512x1024 S1024x1024 S16x512x1024 [2] [0] [0, 1] [1] [] []
  gather_S16x16x512x64_S512x1_S16x16x512x64_013_2_n_n_2_1_1616164_wf : GatherDims.WF S16x16x512x64 S512x1 S16x16x512x64 [0, 1, 3] [2] [] [2] [] 1 ![16, 16, 1, 64]
  dot_S16x16x512x64_S16x16x512x64_S16x16x512x512_3_3_2_2_01_01_wf : DotDims.WF S16x16x512x64 S16x16x512x64 S16x16x512x512 [3] [3] [2] [2] [0, 1] [0, 1]

variable [Facts]

def dot_S16x512x32_S32x1024_S16x512x1024_2_0_01_1_n_n : DotDims S16x512x32 S32x1024 S16x512x1024 where
  lhsContracting := [2]
  rhsContracting := [0]
  lhsNonContracting := [0, 1]
  rhsNonContracting := [1]
  lhsBatch := []
  rhsBatch := []
  wf := dot_S16x512x32_S32x1024_S16x512x1024_2_0_01_1_n_n_wf
def gather_S24x1024_S16x512x1_S16x512x1024_2_0_n_n_0_2_11024 : GatherDims S24x1024 S16x512x1 S16x512x1024 where
  offsetDims := [2]
  collapsedSliceDims := [0]
  operandBatchingDims := []
  startIndicesBatchingDims := []
  startIndexMap := [0]
  indexVectorDim := 2
  sliceSizes := ![1, 1024]
  wf := gather_S24x1024_S16x512x1_S16x512x1024_2_0_n_n_0_2_11024_wf
def gather_S7x1024_S16x512x1_S16x512x1024_2_0_n_n_0_2_11024 : GatherDims S7x1024 S16x512x1 S16x512x1024 where
  offsetDims := [2]
  collapsedSliceDims := [0]
  operandBatchingDims := []
  startIndicesBatchingDims := []
  startIndexMap := [0]
  indexVectorDim := 2
  sliceSizes := ![1, 1024]
  wf := gather_S7x1024_S16x512x1_S16x512x1024_2_0_n_n_0_2_11024_wf
def gather_S12x1024_S16x512x1_S16x512x1024_2_0_n_n_0_2_11024 : GatherDims S12x1024 S16x512x1 S16x512x1024 where
  offsetDims := [2]
  collapsedSliceDims := [0]
  operandBatchingDims := []
  startIndicesBatchingDims := []
  startIndexMap := [0]
  indexVectorDim := 2
  sliceSizes := ![1, 1024]
  wf := gather_S12x1024_S16x512x1_S16x512x1024_2_0_n_n_0_2_11024_wf
def dot_S16x512x1024_S1024x1024_S16x512x1024_2_0_01_1_n_n : DotDims S16x512x1024 S1024x1024 S16x512x1024 where
  lhsContracting := [2]
  rhsContracting := [0]
  lhsNonContracting := [0, 1]
  rhsNonContracting := [1]
  lhsBatch := []
  rhsBatch := []
  wf := dot_S16x512x1024_S1024x1024_S16x512x1024_2_0_01_1_n_n_wf
def gather_S16x16x512x64_S512x1_S16x16x512x64_013_2_n_n_2_1_1616164 : GatherDims S16x16x512x64 S512x1 S16x16x512x64 where
  offsetDims := [0, 1, 3]
  collapsedSliceDims := [2]
  operandBatchingDims := []
  startIndicesBatchingDims := []
  startIndexMap := [2]
  indexVectorDim := 1
  sliceSizes := ![16, 16, 1, 64]
  wf := gather_S16x16x512x64_S512x1_S16x16x512x64_013_2_n_n_2_1_1616164_wf
def dot_S16x16x512x64_S16x16x512x64_S16x16x512x512_3_3_2_2_01_01 : DotDims S16x16x512x64 S16x16x512x64 S16x16x512x512 where
  lhsContracting := [3]
  rhsContracting := [3]
  lhsNonContracting := [2]
  rhsNonContracting := [2]
  lhsBatch := [0, 1]
  rhsBatch := [0, 1]
  wf := dot_S16x16x512x64_S16x16x512x64_S16x16x512x512_3_3_2_2_01_01_wf

noncomputable abbrev lit0t0_0 (i : Nat) : BitVec 32 := match i % 128 with
  | 0 => 121#32
  | 1 => 480#32
  | 2 => 35#32
  | 3 => 130#32
  | 4 => 263#32
  | 5 => 148#32
  | 6 => 197#32
  | 7 => 410#32
  | 8 => 398#32
  | 9 => 45#32
  | 10 => 176#32
  | 11 => 462#32
  | 12 => 446#32
  | 13 => 366#32
  | 14 => 257#32
  | 15 => 179#32
  | 16 => 139#32
  | 17 => 315#32
  | 18 => 501#32
  | 19 => 188#32
  | 20 => 312#32
  | 21 => 499#32
  | 22 => 318#32
  | 23 => 448#32
  | 24 => 304#32
  | 25 => 99#32
  | 26 => 309#32
  | 27 => 144#32
  | 28 => 152#32
  | 29 => 189#32
  | 30 => 487#32
  | 31 => 325#32
  | 32 => 31#32
  | 33 => 112#32
  | 34 => 495#32
  | 35 => 356#32
  | 36 => 493#32
  | 37 => 507#32
  | 38 => 268#32
  | 39 => 429#32
  | 40 => 409#32
  | 41 => 85#32
  | 42 => 63#32
  | 43 => 117#32
  | 44 => 417#32
  | 45 => 174#32
  | 46 => 441#32
  | 47 => 509#32
  | 48 => 481#32
  | 49 => 272#32
  | 50 => 114#32
  | 51 => 254#32
  | 52 => 82#32
  | 53 => 65#32
  | 54 => 7#32
  | 55 => 350#32
  | 56 => 4#32
  | 57 => 101#32
  | 58 => 463#32
  | 59 => 452#32
  | 60 => 444#32
  | 61 => 102#32
  | 62 => 78#32
  | 63 => 163#32
  | 64 => 157#32
  | 65 => 302#32
  | 66 => 183#32
  | 67 => 29#32
  | 68 => 240#32
  | 69 => 177#32
  | 70 => 278#32
  | 71 => 259#32
  | 72 => 108#32
  | 73 => 305#32
  | 74 => 83#32
  | 75 => 129#32
  | 76 => 367#32
  | 77 => 212#32
  | 78 => 277#32
  | 79 => 504#32
  | 80 => 300#32
  | 81 => 44#32
  | 82 => 211#32
  | 83 => 16#32
  | 84 => 58#32
  | 85 => 123#32
  | 86 => 37#32
  | 87 => 336#32
  | 88 => 111#32
  | 89 => 19#32
  | 90 => 61#32
  | 91 => 447#32
  | 92 => 2#32
  | 93 => 142#32
  | 94 => 34#32
  | 95 => 369#32
  | 96 => 339#32
  | 97 => 156#32
  | 98 => 436#32
  | 99 => 5#32
  | 100 => 461#32
  | 101 => 415#32
  | 102 => 90#32
  | 103 => 363#32
  | 104 => 175#32
  | 105 => 167#32
  | 106 => 284#32
  | 107 => 379#32
  | 108 => 251#32
  | 109 => 110#32
  | 110 => 72#32
  | 111 => 155#32
  | 112 => 178#32
  | 113 => 323#32
  | 114 => 291#32
  | 115 => 388#32
  | 116 => 269#32
  | 117 => 354#32
  | 118 => 368#32
  | 119 => 219#32
  | 120 => 510#32
  | 121 => 153#32
  | 122 => 30#32
  | 123 => 275#32
  | 124 => 42#32
  | 125 => 186#32
  | 126 => 342#32
  | 127 => 406#32
  | _ => 0#32

noncomputable abbrev lit0t0_1 (i : Nat) : BitVec 32 := match i % 128 with
  | 0 => 468#32
  | 1 => 439#32
  | 2 => 307#32
  | 3 => 256#32
  | 4 => 419#32
  | 5 => 246#32
  | 6 => 3#32
  | 7 => 362#32
  | 8 => 380#32
  | 9 => 327#32
  | 10 => 393#32
  | 11 => 70#32
  | 12 => 378#32
  | 13 => 400#32
  | 14 => 271#32
  | 15 => 488#32
  | 16 => 311#32
  | 17 => 67#32
  | 18 => 273#32
  | 19 => 223#32
  | 20 => 422#32
  | 21 => 39#32
  | 22 => 56#32
  | 23 => 274#32
  | 24 => 192#32
  | 25 => 169#32
  | 26 => 349#32
  | 27 => 218#32
  | 28 => 195#32
  | 29 => 476#32
  | 30 => 173#32
  | 31 => 245#32
  | 32 => 241#32
  | 33 => 69#32
  | 34 => 383#32
  | 35 => 80#32
  | 36 => 22#32
  | 37 => 6#32
  | 38 => 321#32
  | 39 => 199#32
  | 40 => 345#32
  | 41 => 118#32
  | 42 => 235#32
  | 43 => 54#32
  | 44 => 442#32
  | 45 => 479#32
  | 46 => 423#32
  | 47 => 266#32
  | 48 => 77#32
  | 49 => 425#32
  | 50 => 147#32
  | 51 => 18#32
  | 52 => 340#32
  | 53 => 298#32
  | 54 => 249#32
  | 55 => 294#32
  | 56 => 375#32
  | 57 => 382#32
  | 58 => 10#32
  | 59 => 11#32
  | 60 => 234#32
  | 61 => 53#32
  | 62 => 236#32
  | 63 => 455#32
  | 64 => 94#32
  | 65 => 332#32
  | 66 => 511#32
  | 67 => 331#32
  | 68 => 437#32
  | 69 => 353#32
  | 70 => 489#32
  | 71 => 287#32
  | 72 => 32#32
  | 73 => 217#32
  | 74 => 283#32
  | 75 => 355#32
  | 76 => 407#32
  | 77 => 159#32
  | 78 => 440#32
  | 79 => 15#32
  | 80 => 470#32
  | 81 => 184#32
  | 82 => 49#32
  | 83 => 137#32
  | 84 => 50#32
  | 85 => 138#32
  | 86 => 20#32
  | 87 => 445#32
  | 88 => 237#32
  | 89 => 280#32
  | 90 => 253#32
  | 91 => 185#32
  | 92 => 460#32
  | 93 => 43#32
  | 94 => 389#32
  | 95 => 335#32
  | 96 => 258#32
  | 97 => 370#32
  | 98 => 344#32
  | 99 => 92#32
  | 100 => 8#32
  | 101 => 503#32
  | 102 => 324#32
  | 103 => 140#32
  | 104 => 233#32
  | 105 => 24#32
  | 106 => 81#32
  | 107 => 239#32
  | 108 => 314#32
  | 109 => 453#32
  | 110 => 96#32
  | 111 => 475#32
  | 112 => 467#32
  | 113 => 154#32
  | 114 => 135#32
  | 115 => 472#32
  | 116 => 490#32
  | 117 => 469#32
  | 118 => 500#32
  | 119 => 264#32
  | 120 => 160#32
  | 121 => 106#32
  | 122 => 128#32
  | 123 => 265#32
  | 124 => 426#32
  | 125 => 386#32
  | 126 => 191#32
  | 127 => 9#32
  | _ => 0#32

noncomputable abbrev lit0t0_2 (i : Nat) : BitVec 32 := match i % 128 with
  | 0 => 200#32
  | 1 => 40#32
  | 2 => 187#32
  | 3 => 71#32
  | 4 => 346#32
  | 5 => 438#32
  | 6 => 333#32
  | 7 => 248#32
  | 8 => 164#32
  | 9 => 207#32
  | 10 => 93#32
  | 11 => 59#32
  | 12 => 201#32
  | 13 => 158#32
  | 14 => 210#32
  | 15 => 420#32
  | 16 => 402#32
  | 17 => 75#32
  | 18 => 508#32
  | 19 => 131#32
  | 20 => 411#32
  | 21 => 97#32
  | 22 => 66#32
  | 23 => 25#32
  | 24 => 196#32
  | 25 => 424#32
  | 26 => 364#32
  | 27 => 497#32
  | 28 => 242#32
  | 29 => 338#32
  | 30 => 206#32
  | 31 => 243#32
  | 32 => 397#32
  | 33 => 341#32
  | 34 => 450#32
  | 35 => 414#32
  | 36 => 238#32
  | 37 => 295#32
  | 38 => 432#32
  | 39 => 431#32
  | 40 => 308#32
  | 41 => 73#32
  | 42 => 320#32
  | 43 => 13#32
  | 44 => 52#32
  | 45 => 491#32
  | 46 => 203#32
  | 47 => 289#32
  | 48 => 303#32
  | 49 => 202#32
  | 50 => 255#32
  | 51 => 194#32
  | 52 => 88#32
  | 53 => 250#32
  | 54 => 337#32
  | 55 => 62#32
  | 56 => 230#32
  | 57 => 150#32
  | 58 => 261#32
  | 59 => 330#32
  | 60 => 262#32
  | 61 => 209#32
  | 62 => 132#32
  | 63 => 357#32
  | 64 => 87#32
  | 65 => 76#32
  | 66 => 198#32
  | 67 => 486#32
  | 68 => 60#32
  | 69 => 244#32
  | 70 => 457#32
  | 71 => 47#32
  | 72 => 392#32
  | 73 => 374#32
  | 74 => 276#32
  | 75 => 33#32
  | 76 => 79#32
  | 77 => 451#32
  | 78 => 180#32
  | 79 => 403#32
  | 80 => 247#32
  | 81 => 14#32
  | 82 => 459#32
  | 83 => 286#32
  | 84 => 421#32
  | 85 => 458#32
  | 86 => 228#32
  | 87 => 17#32
  | 88 => 38#32
  | 89 => 86#32
  | 90 => 231#32
  | 91 => 190#32
  | 92 => 232#32
  | 93 => 482#32
  | 94 => 23#32
  | 95 => 105#32
  | 96 => 484#32
  | 97 => 395#32
  | 98 => 427#32
  | 99 => 301#32
  | 100 => 474#32
  | 101 => 376#32
  | 102 => 405#32
  | 103 => 494#32
  | 104 => 471#32
  | 105 => 391#32
  | 106 => 313#32
  | 107 => 220#32
  | 108 => 0#32
  | 109 => 473#32
  | 110 => 145#32
  | 111 => 371#32
  | 112 => 213#32
  | 113 => 226#32
  | 114 => 381#32
  | 115 => 133#32
  | 116 => 281#32
  | 117 => 41#32
  | 118 => 64#32
  | 119 => 416#32
  | 120 => 21#32
  | 121 => 443#32
  | 122 => 161#32
  | 123 => 279#32
  | 124 => 285#32
  | 125 => 166#32
  | 126 => 124#32
  | 127 => 116#32
  | _ => 0#32

noncomputable abbrev lit0t0_3 (i : Nat) : BitVec 32 := match i % 128 with
  | 0 => 449#32
  | 1 => 26#32
  | 2 => 165#32
  | 3 => 168#32
  | 4 => 193#32
  | 5 => 57#32
  | 6 => 208#32
  | 7 => 181#32
  | 8 => 89#32
  | 9 => 146#32
  | 10 => 182#32
  | 11 => 126#32
  | 12 => 125#32
  | 13 => 297#32
  | 14 => 1#32
  | 15 => 115#32
  | 16 => 28#32
  | 17 => 113#32
  | 18 => 225#32
  | 19 => 361#32
  | 20 => 351#32
  | 21 => 465#32
  | 22 => 172#32
  | 23 => 377#32
  | 24 => 162#32
  | 25 => 48#32
  | 26 => 170#32
  | 27 => 466#32
  | 28 => 505#32
  | 29 => 227#32
  | 30 => 36#32
  | 31 => 252#32
  | 32 => 502#32
  | 33 => 492#32
  | 34 => 119#32
  | 35 => 151#32
  | 36 => 385#32
  | 37 => 306#32
  | 38 => 120#32
  | 39 => 372#32
  | 40 => 390#32
  | 41 => 224#32
  | 42 => 122#32
  | 43 => 270#32
  | 44 => 100#32
  | 45 => 418#32
  | 46 => 433#32
  | 47 => 329#32
  | 48 => 365#32
  | 49 => 396#32
  | 50 => 91#32
  | 51 => 222#32
  | 52 => 55#32
  | 53 => 496#32
  | 54 => 498#32
  | 55 => 103#32
  | 56 => 51#32
  | 57 => 293#32
  | 58 => 215#32
  | 59 => 384#32
  | 60 => 127#32
  | 61 => 98#32
  | 62 => 483#32
  | 63 => 506#32
  | 64 => 282#32
  | 65 => 107#32
  | 66 => 27#32
  | 67 => 322#32
  | 68 => 74#32
  | 69 => 136#32
  | 70 => 229#32
  | 71 => 319#32
  | 72 => 328#32
  | 73 => 430#32
  | 74 => 343#32
  | 75 => 204#32
  | 76 => 221#32
  | 77 => 296#32
  | 78 => 12#32
  | 79 => 134#32
  | 80 => 454#32
  | 81 => 477#32
  | 82 => 408#32
  | 83 => 109#32
  | 84 => 84#32
  | 85 => 428#32
  | 86 => 317#32
  | 87 => 358#32
  | 88 => 394#32
  | 89 => 299#32
  | 90 => 205#32
  | 91 => 171#32
  | 92 => 288#32
  | 93 => 143#32
  | 94 => 68#32
  | 95 => 267#32
  | 96 => 216#32
  | 97 => 435#32
  | 98 => 149#32
  | 99 => 485#32
  | 100 => 434#32
  | 101 => 141#32
  | 102 => 464#32
  | 103 => 334#32
  | 104 => 404#32
  | 105 => 104#32
  | 106 => 352#32
  | 107 => 95#32
  | 108 => 387#32
  | 109 => 316#32
  | 110 => 214#32
  | 111 => 290#32
  | 112 => 46#32
  | 113 => 310#32
  | 114 => 348#32
  | 115 => 401#32
  | 116 => 260#32
  | 117 => 478#32
  | 118 => 292#32
  | 119 => 359#32
  | 120 => 326#32
  | 121 => 347#32
  | 122 => 456#32
  | 123 => 399#32
  | 124 => 373#32
  | 125 => 412#32
  | 126 => 360#32
  | 127 => 413#32
  | _ => 0#32

noncomputable abbrev lit0t (i : Nat) : BitVec 32 := match i / 128 with
  | 0 => lit0t0_0 i
  | 1 => lit0t0_1 i
  | 2 => lit0t0_2 i
  | 3 => lit0t0_3 i
  | _ => 0#32

noncomputable abbrev lit0 : Fin 512 → BitVec 32 := fun ⟨i, _⟩ => lit0t i

noncomputable abbrev lit1 : Fin 3 → BitVec 32 := fun
  | 0 => 24#32 | 1 => 7#32 | 2 => 12#32
  | _ => 0#32

def fn_where {F : FTy → Type} [FloatOps F] (arg0 : IVec S16x512 1) (arg1 : IVec S16x512 32) (arg2 : IVec S16x512 32) : IVec S16x512 32 :=
  let v0 : IVec S16x512 32 := select arg0 arg1 arg2
  v0

def fn_take {F : FTy → Type} [FloatOps F] (arg0 : FVec F S24x1024 .f32) (arg1 : IVec S16x512 32) : FVec F S16x512x1024 .f32 :=
  let c : IVec S_ 32 := constantI S_ 32 0#32
  let v0 : IVec S16x512 32 := broadcastInDim S16x512 ![] bcast_S_S16x512 c
  let v1 : IVec S16x512 1 := cmpi .slt arg1 v0
  let c_0 : IVec S_ 32 := constantI S_ 32 24#32
  let v2 : IVec S16x512 32 := broadcastInDim S16x512 ![] bcast_S_S16x512 c_0
  let v3 : IVec S16x512 32 := addi arg1 v2
  let v4 : IVec S16x512 32 := fn_where (F := F) v1 v3 arg1
  let v5 : IVec S16x512x1 32 := broadcastInDim S16x512x1 ![0, 1] bcast_S16x512_S16x512x1_0_1 v4
  let c_1 : IVec S1 32 := constantI S1 32 23#32
  let c_2 : IVec S_ 32 := constantI S_ 32 0#32
  let v6 : IVec S16x512x1 32 := broadcastInDim S16x512x1 ![] bcast_S_S16x512x1 c_2
  let v7 : IVec S16x512x1 1 := cmpi .sge v5 v6
  let v8 : IVec S1x1x1 32 := broadcastInDim S1x1x1 ![2] bcast_S1_S1x1x1_2 c_1
  let v9 : IVec S16x512x1 32 := broadcastInDim S16x512x1 ![0, 1, 2] bcast_S1x1x1_S16x512x1_0_1_2 v8
  let v10 : IVec S16x512x1 1 := cmpi .sle v5 v9
  let v11 : IVec S16x512x1 1 := andi v7 v10
  let c_3 : IVec S_ 1 := constantI S_ 1 1#1
  let v12 : IVec S16x512 1 := (fun x v => Host.reduce IntOp.andi x v reducesTo_S16x512x1_S16x512_d2 h_S_) v11 c_3
  let v13 : FVec F S16x512x1024 .f32 := (fun x i => Host.gather gather_S24x1024_S16x512x1_S16x512x1024_2_0_n_n_0_2_11024 x i) arg0 v5
  let v14 : IVec S16x512x1024 1 := broadcastInDim S16x512x1024 ![0, 1] bcast_S16x512_S16x512x1024_0_1 v12
  let cst : FVec F S_ .f32 := constant S_ .f32 0x7FC00000#32
  let v15 : FVec F S16x512x1024 .f32 := broadcastInDim S16x512x1024 ![] bcast_S_S16x512x1024 cst
  let v16 : FVec F S16x512x1024 .f32 := select v14 v13 v15
  v16

def fn_take_0 {F : FTy → Type} [FloatOps F] (arg0 : FVec F S7x1024 .f32) (arg1 : IVec S16x512 32) : FVec F S16x512x1024 .f32 :=
  let c : IVec S_ 32 := constantI S_ 32 0#32
  let v0 : IVec S16x512 32 := broadcastInDim S16x512 ![] bcast_S_S16x512 c
  let v1 : IVec S16x512 1 := cmpi .slt arg1 v0
  let c_0 : IVec S_ 32 := constantI S_ 32 7#32
  let v2 : IVec S16x512 32 := broadcastInDim S16x512 ![] bcast_S_S16x512 c_0
  let v3 : IVec S16x512 32 := addi arg1 v2
  let v4 : IVec S16x512 32 := fn_where (F := F) v1 v3 arg1
  let v5 : IVec S16x512x1 32 := broadcastInDim S16x512x1 ![0, 1] bcast_S16x512_S16x512x1_0_1 v4
  let c_1 : IVec S1 32 := constantI S1 32 6#32
  let c_2 : IVec S_ 32 := constantI S_ 32 0#32
  let v6 : IVec S16x512x1 32 := broadcastInDim S16x512x1 ![] bcast_S_S16x512x1 c_2
  let v7 : IVec S16x512x1 1 := cmpi .sge v5 v6
  let v8 : IVec S1x1x1 32 := broadcastInDim S1x1x1 ![2] bcast_S1_S1x1x1_2 c_1
  let v9 : IVec S16x512x1 32 := broadcastInDim S16x512x1 ![0, 1, 2] bcast_S1x1x1_S16x512x1_0_1_2 v8
  let v10 : IVec S16x512x1 1 := cmpi .sle v5 v9
  let v11 : IVec S16x512x1 1 := andi v7 v10
  let c_3 : IVec S_ 1 := constantI S_ 1 1#1
  let v12 : IVec S16x512 1 := (fun x v => Host.reduce IntOp.andi x v reducesTo_S16x512x1_S16x512_d2 h_S_) v11 c_3
  let v13 : FVec F S16x512x1024 .f32 := (fun x i => Host.gather gather_S7x1024_S16x512x1_S16x512x1024_2_0_n_n_0_2_11024 x i) arg0 v5
  let v14 : IVec S16x512x1024 1 := broadcastInDim S16x512x1024 ![0, 1] bcast_S16x512_S16x512x1024_0_1 v12
  let cst : FVec F S_ .f32 := constant S_ .f32 0x7FC00000#32
  let v15 : FVec F S16x512x1024 .f32 := broadcastInDim S16x512x1024 ![] bcast_S_S16x512x1024 cst
  let v16 : FVec F S16x512x1024 .f32 := select v14 v13 v15
  v16

def fn_take_1 {F : FTy → Type} [FloatOps F] (arg0 : FVec F S12x1024 .f32) (arg1 : IVec S16x512 32) : FVec F S16x512x1024 .f32 :=
  let c : IVec S_ 32 := constantI S_ 32 0#32
  let v0 : IVec S16x512 32 := broadcastInDim S16x512 ![] bcast_S_S16x512 c
  let v1 : IVec S16x512 1 := cmpi .slt arg1 v0
  let c_0 : IVec S_ 32 := constantI S_ 32 12#32
  let v2 : IVec S16x512 32 := broadcastInDim S16x512 ![] bcast_S_S16x512 c_0
  let v3 : IVec S16x512 32 := addi arg1 v2
  let v4 : IVec S16x512 32 := fn_where (F := F) v1 v3 arg1
  let v5 : IVec S16x512x1 32 := broadcastInDim S16x512x1 ![0, 1] bcast_S16x512_S16x512x1_0_1 v4
  let c_1 : IVec S1 32 := constantI S1 32 11#32
  let c_2 : IVec S_ 32 := constantI S_ 32 0#32
  let v6 : IVec S16x512x1 32 := broadcastInDim S16x512x1 ![] bcast_S_S16x512x1 c_2
  let v7 : IVec S16x512x1 1 := cmpi .sge v5 v6
  let v8 : IVec S1x1x1 32 := broadcastInDim S1x1x1 ![2] bcast_S1_S1x1x1_2 c_1
  let v9 : IVec S16x512x1 32 := broadcastInDim S16x512x1 ![0, 1, 2] bcast_S1x1x1_S16x512x1_0_1_2 v8
  let v10 : IVec S16x512x1 1 := cmpi .sle v5 v9
  let v11 : IVec S16x512x1 1 := andi v7 v10
  let c_3 : IVec S_ 1 := constantI S_ 1 1#1
  let v12 : IVec S16x512 1 := (fun x v => Host.reduce IntOp.andi x v reducesTo_S16x512x1_S16x512_d2 h_S_) v11 c_3
  let v13 : FVec F S16x512x1024 .f32 := (fun x i => Host.gather gather_S12x1024_S16x512x1_S16x512x1024_2_0_n_n_0_2_11024 x i) arg0 v5
  let v14 : IVec S16x512x1024 1 := broadcastInDim S16x512x1024 ![0, 1] bcast_S16x512_S16x512x1024_0_1 v12
  let cst : FVec F S_ .f32 := constant S_ .f32 0x7FC00000#32
  let v15 : FVec F S16x512x1024 .f32 := broadcastInDim S16x512x1024 ![] bcast_S_S16x512x1024 cst
  let v16 : FVec F S16x512x1024 .f32 := select v14 v13 v15
  v16

def fn_where_2 {F : FTy → Type} [FloatOps F] (arg0 : IVec S16x512x1024 1) (arg1 : FVec F S_ .f32) (arg2 : FVec F S16x512x1024 .f32) : FVec F S16x512x1024 .f32 :=
  let v0 : FVec F S_ .f32 := id arg1
  let v1 : FVec F S16x512x1024 .f32 := broadcastInDim S16x512x1024 ![] bcast_S_S16x512x1024 v0
  let v2 : FVec F S16x512x1024 .f32 := select arg0 v1 arg2
  v2

def fn_where_3 {F : FTy → Type} [FloatOps F] (arg0 : IVec S16x512x1024 1) (arg1 : FVec F S16x512x1024 .f32) (arg2 : FVec F S16x512x1024 .f32) : FVec F S16x512x1024 .f32 :=
  let v0 : FVec F S16x512x1024 .f32 := select arg0 arg1 arg2
  v0

def fn_elu {F : FTy → Type} [FloatOps F] (arg0 : FVec F S16x512x1024 .f32) : FVec F S16x512x1024 .f32 :=
  let cst : FVec F S_ .f32 := constant S_ .f32 0x00000000#32
  let v0 : FVec F S16x512x1024 .f32 := broadcastInDim S16x512x1024 ![] bcast_S_S16x512x1024 cst
  let v1 : IVec S16x512x1024 1 := cmpf .ogt arg0 v0
  let cst_0 : FVec F S_ .f32 := constant S_ .f32 0x00000000#32
  let v2 : FVec F S16x512x1024 .f32 := broadcastInDim S16x512x1024 ![] bcast_S_S16x512x1024 cst_0
  let v3 : IVec S16x512x1024 1 := cmpf .ogt arg0 v2
  let cst_1 : FVec F S_ .f32 := constant S_ .f32 0x00000000#32
  let v4 : FVec F S16x512x1024 .f32 := fn_where_2 (F := F) v3 cst_1 arg0
  let v5 : FVec F S16x512x1024 .f32 := Host.expm1 v4
  let cst_2 : FVec F S_ .f32 := constant S_ .f32 0x3F800000#32
  let v6 : FVec F S16x512x1024 .f32 := broadcastInDim S16x512x1024 ![] bcast_S_S16x512x1024 cst_2
  let v7 : FVec F S16x512x1024 .f32 := mulf v6 v5
  let v8 : FVec F S16x512x1024 .f32 := fn_where_3 (F := F) v1 arg0 v7
  v8

def fn_part6 {F : FTy → Type} [FloatOps F] (main_v68 : IVec S16x512x3 1) (main_v71 : IVec S16x16x31 1) (main_v75 : IVec S16x512x32 1) (main_v78 : IVec S32x1024 1) (main_v81 : IVec S1024 1) (main_v84 : IVec S24x1024 1) (main_v87 : IVec S7x1024 1) (main_v90 : IVec S12x1024 1) (main_v93 : IVec S1x512x1024 1) (main_v96 : IVec S3x1024x1024 1) (main_v99 : IVec S1024 1) (main_v102 : IVec S1024x1024 1) (main_v105 : IVec S1024 1) (main_v108 : IVec S1024x1024 1) (main_v111 : IVec S1024 1) (main_v114 : IVec S1024x1024 1) (main_v115 : FVec F S1024 .f32) (main_v116 : FVec F S1024 .f32) : IVec S16x512x3 1 × IVec S16x16x31 1 × IVec S16x512x32 1 × IVec S32x1024 1 × IVec S1024 1 × IVec S24x1024 1 × IVec S7x1024 1 × IVec S12x1024 1 × IVec S1x512x1024 1 × IVec S3x1024x1024 1 × IVec S1024 1 × IVec S1024x1024 1 × IVec S1024 1 × IVec S1024x1024 1 × IVec S1024 1 × IVec S1024x1024 1 × IVec S1024 1 :=
  let main_v117 : IVec S1024 1 := cmpf .olt main_v115 main_v116
  (main_v68, main_v71, main_v75, main_v78, main_v81, main_v84, main_v87, main_v90, main_v93, main_v96, main_v99, main_v102, main_v105, main_v108, main_v111, main_v114, main_v117)

def fn_part5 {F : FTy → Type} [FloatOps F] (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_v68 : IVec S16x512x3 1) (main_v71 : IVec S16x16x31 1) (main_v75 : IVec S16x512x32 1) (main_v78 : IVec S32x1024 1) (main_v81 : IVec S1024 1) (main_v84 : IVec S24x1024 1) (main_v87 : IVec S7x1024 1) (main_v90 : IVec S12x1024 1) (main_v93 : IVec S1x512x1024 1) (main_v96 : IVec S3x1024x1024 1) (main_v97 : FVec F S1024 .f32) (main_v98 : FVec F S1024 .f32) : IVec S16x512x3 1 × IVec S16x16x31 1 × IVec S16x512x32 1 × IVec S32x1024 1 × IVec S1024 1 × IVec S24x1024 1 × IVec S7x1024 1 × IVec S12x1024 1 × IVec S1x512x1024 1 × IVec S3x1024x1024 1 × IVec S1024 1 × IVec S1024x1024 1 × IVec S1024 1 × IVec S1024x1024 1 × IVec S1024 1 × IVec S1024x1024 1 × IVec S1024 1 :=
  let main_v99 : IVec S1024 1 := cmpf .olt main_v97 main_v98
  let main_v100 : FVec F S1024x1024 .f32 := Host.absf main_arg10
  let main_cst_17 : FVec F S_ .f32 := constant S_ .f32 0x7F800000#32
  let main_v101 : FVec F S1024x1024 .f32 := broadcastInDim S1024x1024 ![] bcast_S_S1024x1024 main_cst_17
  let main_v102 : IVec S1024x1024 1 := cmpf .olt main_v100 main_v101
  let main_v103 : FVec F S1024 .f32 := Host.absf main_arg11
  let main_cst_18 : FVec F S_ .f32 := constant S_ .f32 0x7F800000#32
  let main_v104 : FVec F S1024 .f32 := broadcastInDim S1024 ![] bcast_S_S1024 main_cst_18
  let main_v105 : IVec S1024 1 := cmpf .olt main_v103 main_v104
  let main_v106 : FVec F S1024x1024 .f32 := Host.absf main_arg12
  let main_cst_19 : FVec F S_ .f32 := constant S_ .f32 0x7F800000#32
  let main_v107 : FVec F S1024x1024 .f32 := broadcastInDim S1024x1024 ![] bcast_S_S1024x1024 main_cst_19
  let main_v108 : IVec S1024x1024 1 := cmpf .olt main_v106 main_v107
  let main_v109 : FVec F S1024 .f32 := Host.absf main_arg13
  let main_cst_20 : FVec F S_ .f32 := constant S_ .f32 0x7F800000#32
  let main_v110 : FVec F S1024 .f32 := broadcastInDim S1024 ![] bcast_S_S1024 main_cst_20
  let main_v111 : IVec S1024 1 := cmpf .olt main_v109 main_v110
  let main_v112 : FVec F S1024x1024 .f32 := Host.absf main_arg14
  let main_cst_21 : FVec F S_ .f32 := constant S_ .f32 0x7F800000#32
  let main_v113 : FVec F S1024x1024 .f32 := broadcastInDim S1024x1024 ![] bcast_S_S1024x1024 main_cst_21
  let main_v114 : IVec S1024x1024 1 := cmpf .olt main_v112 main_v113
  let main_v115 : FVec F S1024 .f32 := Host.absf main_arg15
  let main_cst_22 : FVec F S_ .f32 := constant S_ .f32 0x7F800000#32
  let main_v116 : FVec F S1024 .f32 := broadcastInDim S1024 ![] bcast_S_S1024 main_cst_22
  fn_part6 (F := F) main_v68 main_v71 main_v75 main_v78 main_v81 main_v84 main_v87 main_v90 main_v93 main_v96 main_v99 main_v102 main_v105 main_v108 main_v111 main_v114 main_v115 main_v116

def fn_part4 {F : FTy → Type} [FloatOps F] (main_arg4 : FVec F S24x1024 .f32) (main_arg5 : FVec F S7x1024 .f32) (main_arg6 : FVec F S12x1024 .f32) (main_arg8 : FVec F S3x1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_v68 : IVec S16x512x3 1) (main_v71 : IVec S16x16x31 1) (main_v72 : FVec F S1x512x1024 .f32) (main_v75 : IVec S16x512x32 1) (main_v78 : IVec S32x1024 1) (main_v79 : FVec F S1024 .f32) (main_v80 : FVec F S1024 .f32) : IVec S16x512x3 1 × IVec S16x16x31 1 × IVec S16x512x32 1 × IVec S32x1024 1 × IVec S1024 1 × IVec S24x1024 1 × IVec S7x1024 1 × IVec S12x1024 1 × IVec S1x512x1024 1 × IVec S3x1024x1024 1 × IVec S1024 1 × IVec S1024x1024 1 × IVec S1024 1 × IVec S1024x1024 1 × IVec S1024 1 × IVec S1024x1024 1 × IVec S1024 1 :=
  let main_v81 : IVec S1024 1 := cmpf .olt main_v79 main_v80
  let main_v82 : FVec F S24x1024 .f32 := Host.absf main_arg4
  let main_cst_11 : FVec F S_ .f32 := constant S_ .f32 0x7F800000#32
  let main_v83 : FVec F S24x1024 .f32 := broadcastInDim S24x1024 ![] bcast_S_S24x1024 main_cst_11
  let main_v84 : IVec S24x1024 1 := cmpf .olt main_v82 main_v83
  let main_v85 : FVec F S7x1024 .f32 := Host.absf main_arg5
  let main_cst_12 : FVec F S_ .f32 := constant S_ .f32 0x7F800000#32
  let main_v86 : FVec F S7x1024 .f32 := broadcastInDim S7x1024 ![] bcast_S_S7x1024 main_cst_12
  let main_v87 : IVec S7x1024 1 := cmpf .olt main_v85 main_v86
  let main_v88 : FVec F S12x1024 .f32 := Host.absf main_arg6
  let main_cst_13 : FVec F S_ .f32 := constant S_ .f32 0x7F800000#32
  let main_v89 : FVec F S12x1024 .f32 := broadcastInDim S12x1024 ![] bcast_S_S12x1024 main_cst_13
  let main_v90 : IVec S12x1024 1 := cmpf .olt main_v88 main_v89
  let main_v91 : FVec F S1x512x1024 .f32 := Host.absf main_v72
  let main_cst_14 : FVec F S_ .f32 := constant S_ .f32 0x7F800000#32
  let main_v92 : FVec F S1x512x1024 .f32 := broadcastInDim S1x512x1024 ![] bcast_S_S1x512x1024 main_cst_14
  let main_v93 : IVec S1x512x1024 1 := cmpf .olt main_v91 main_v92
  let main_v94 : FVec F S3x1024x1024 .f32 := Host.absf main_arg8
  let main_cst_15 : FVec F S_ .f32 := constant S_ .f32 0x7F800000#32
  let main_v95 : FVec F S3x1024x1024 .f32 := broadcastInDim S3x1024x1024 ![] bcast_S_S3x1024x1024 main_cst_15
  let main_v96 : IVec S3x1024x1024 1 := cmpf .olt main_v94 main_v95
  let main_v97 : FVec F S1024 .f32 := Host.absf main_arg9
  let main_cst_16 : FVec F S_ .f32 := constant S_ .f32 0x7F800000#32
  let main_v98 : FVec F S1024 .f32 := broadcastInDim S1024 ![] bcast_S_S1024 main_cst_16
  fn_part5 (F := F) main_arg10 main_arg11 main_arg12 main_arg13 main_arg14 main_arg15 main_v68 main_v71 main_v75 main_v78 main_v81 main_v84 main_v87 main_v90 main_v93 main_v96 main_v97 main_v98

def fn_part3 {F : FTy → Type} [FloatOps F] (main_arg0 : FVec F S16x512x32 .f32) (main_arg1 : IVec S16x512x3 32) (main_arg2 : FVec F S32x1024 .f32) (main_arg3 : FVec F S1024 .f32) (main_arg4 : FVec F S24x1024 .f32) (main_arg5 : FVec F S7x1024 .f32) (main_arg6 : FVec F S12x1024 .f32) (main_arg7 : FVec F S1x1000x1024 .f32) (main_arg8 : FVec F S3x1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_c_1 : IVec S3 32) (main_v62 : FVec F S16x16x512 .f32) : IVec S16x512x3 1 × IVec S16x16x31 1 × IVec S16x512x32 1 × IVec S32x1024 1 × IVec S1024 1 × IVec S24x1024 1 × IVec S7x1024 1 × IVec S12x1024 1 × IVec S1x512x1024 1 × IVec S3x1024x1024 1 × IVec S1024 1 × IVec S1024x1024 1 × IVec S1024 1 × IVec S1024x1024 1 × IVec S1024 1 × IVec S1024x1024 1 × IVec S1024 1 :=
  let main_values : FVec F S16x16x32 .f32 := (fun x => (Host.topK S16x16x32 2 (FloatOps.cmpfTotal .gt) x sliceFits_S16x16x512_S16x16x32).1) main_v62
  let main_indices : IVec S16x16x32 32 := (fun x => (Host.topK S16x16x32 2 (FloatOps.cmpfTotal .gt) x sliceFits_S16x16x512_S16x16x32).2) main_v62
  let main_c_7 : IVec S_ 32 := constantI S_ 32 0#32
  let main_v63 : IVec S16x512x3 32 := broadcastInDim S16x512x3 ![] bcast_S_S16x512x3 main_c_7
  let main_v64 : IVec S16x512x3 1 := cmpi .sge main_arg1 main_v63
  let main_v65 : IVec S1x1x3 32 := broadcastInDim S1x1x3 ![2] bcast_S3_S1x1x3_2 main_c_1
  let main_v66 : IVec S16x512x3 32 := broadcastInDim S16x512x3 ![0, 1, 2] bcast_S1x1x3_S16x512x3_0_1_2 main_v65
  let main_v67 : IVec S16x512x3 1 := cmpi .slt main_arg1 main_v66
  let main_v68 : IVec S16x512x3 1 := andi main_v64 main_v67
  let main_v69 : FVec F S16x16x31 .f32 := (extractStridedSlice S16x16x31 ![0, 0, 1] · slices_S16x16x32_S16x16x31_0_0_1) main_values
  let main_v70 : FVec F S16x16x31 .f32 := (extractStridedSlice S16x16x31 ![0, 0, 0] · slices_S16x16x32_S16x16x31_0_0_0) main_values
  let main_v71 : IVec S16x16x31 1 := cmpf .olt main_v69 main_v70
  let main_v72 : FVec F S1x512x1024 .f32 := (extractStridedSlice S1x512x1024 ![0, 0, 0] · slices_S1x1000x1024_S1x512x1024_0_0_0) main_arg7
  let main_v73 : FVec F S16x512x32 .f32 := Host.absf main_arg0
  let main_cst_8 : FVec F S_ .f32 := constant S_ .f32 0x7F800000#32
  let main_v74 : FVec F S16x512x32 .f32 := broadcastInDim S16x512x32 ![] bcast_S_S16x512x32 main_cst_8
  let main_v75 : IVec S16x512x32 1 := cmpf .olt main_v73 main_v74
  let main_v76 : FVec F S32x1024 .f32 := Host.absf main_arg2
  let main_cst_9 : FVec F S_ .f32 := constant S_ .f32 0x7F800000#32
  let main_v77 : FVec F S32x1024 .f32 := broadcastInDim S32x1024 ![] bcast_S_S32x1024 main_cst_9
  let main_v78 : IVec S32x1024 1 := cmpf .olt main_v76 main_v77
  let main_v79 : FVec F S1024 .f32 := Host.absf main_arg3
  let main_cst_10 : FVec F S_ .f32 := constant S_ .f32 0x7F800000#32
  let main_v80 : FVec F S1024 .f32 := broadcastInDim S1024 ![] bcast_S_S1024 main_cst_10
  fn_part4 (F := F) main_arg4 main_arg5 main_arg6 main_arg8 main_arg9 main_arg10 main_arg11 main_arg12 main_arg13 main_arg14 main_arg15 main_v68 main_v71 main_v72 main_v75 main_v78 main_v79 main_v80

def fn_part2 {F : FTy → Type} [FloatOps F] (main_arg0 : FVec F S16x512x32 .f32) (main_arg1 : IVec S16x512x3 32) (main_arg2 : FVec F S32x1024 .f32) (main_arg3 : FVec F S1024 .f32) (main_arg4 : FVec F S24x1024 .f32) (main_arg5 : FVec F S7x1024 .f32) (main_arg6 : FVec F S12x1024 .f32) (main_arg7 : FVec F S1x1000x1024 .f32) (main_arg8 : FVec F S3x1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_c : IVec S512 32) (main_c_0 : IVec S512 1) (main_c_1 : IVec S3 32) (main_v39 : FVec F S16x512x1024 .f32) (main_v40 : FVec F S16x512x1024 .f32) (main_v42 : FVec F S16x512x1024 .f32) : IVec S16x512x3 1 × IVec S16x16x31 1 × IVec S16x512x32 1 × IVec S32x1024 1 × IVec S1024 1 × IVec S24x1024 1 × IVec S7x1024 1 × IVec S12x1024 1 × IVec S1x512x1024 1 × IVec S3x1024x1024 1 × IVec S1024 1 × IVec S1024x1024 1 × IVec S1024 1 × IVec S1024x1024 1 × IVec S1024 1 × IVec S1024x1024 1 × IVec S1024 1 :=
  let main_v43 : FVec F S16x512x1024 .f32 := addf main_v40 main_v42
  let main_v44 : FVec F S16x512x16x64 .f32 := shapeCast S16x512x16x64 main_v43 shapeCasts_S16x512x1024_S16x512x16x64
  let main_v45 : FVec F S16x16x512x64 .f32 := (transpose S16x16x512x64 [0, 2, 1, 3] · transposes_S16x512x16x64_S16x16x512x64_0_2_1_3) main_v44
  let main_v46 : FVec F S16x512x1024 .f32 := (fun l r => Host.dotGeneral dot_S16x512x1024_S1024x1024_S16x512x1024_2_0_01_1_n_n none l r) main_v39 main_arg12
  let main_v47 : FVec F S1x1x1024 .f32 := broadcastInDim S1x1x1024 ![2] bcast_S1024_S1x1x1024_2 main_arg13
  let main_v48 : FVec F S16x512x1024 .f32 := broadcastInDim S16x512x1024 ![0, 1, 2] bcast_S1x1x1024_S16x512x1024_0_1_2 main_v47
  let main_v49 : FVec F S16x512x1024 .f32 := addf main_v46 main_v48
  let main_v50 : FVec F S16x512x16x64 .f32 := shapeCast S16x512x16x64 main_v49 shapeCasts_S16x512x1024_S16x512x16x64
  let main_v51 : FVec F S16x16x512x64 .f32 := (transpose S16x16x512x64 [0, 2, 1, 3] · transposes_S16x512x16x64_S16x16x512x64_0_2_1_3) main_v50
  let main_c_3 : IVec S_ 32 := constantI S_ 32 512#32
  let main_v52 : IVec S512 32 := broadcastInDim S512 ![] bcast_S_S512 main_c_3
  let main_v53 : IVec S512 32 := addi main_c main_v52
  let main_v54 : IVec S512 32 := select main_c_0 main_v53 main_c
  let main_v55 : IVec S512x1 32 := broadcastInDim S512x1 ![0] bcast_S512_S512x1_0 main_v54
  let main_v56 : FVec F S16x16x512x64 .f32 := (fun x i => Host.gather gather_S16x16x512x64_S512x1_S16x16x512x64_013_2_n_n_2_1_1616164 x i) main_v51 main_v55
  let main_v57 : FVec F S16x16x512x512 .f32 := (fun l r => Host.dotGeneral dot_S16x16x512x64_S16x16x512x64_S16x16x512x512_3_3_2_2_01_01 none l r) main_v45 main_v56
  let main_cst_4 : FVec F S_ .f32 := constant S_ .f32 0xFF800000#32
  let main_v58 : FVec F S16x16x512 .f32 := (fun x v => Host.reduce FloatOps.maximumf x v reducesTo_S16x16x512x512_S16x16x512_d3 h_S_) main_v57 main_cst_4
  let main_cst_5 : FVec F S_ .f32 := constant S_ .f32 0x00000000#32
  let main_v59 : FVec F S16x16x512 .f32 := (fun x v => Host.reduceAdd x v reducesTo_S16x16x512x512_S16x16x512_d3 h_S_) main_v57 main_cst_5
  let main_cst_6 : FVec F S_ .f32 := constant S_ .f32 0x44000000#32
  let main_v60 : FVec F S16x16x512 .f32 := broadcastInDim S16x16x512 ![] bcast_S_S16x16x512 main_cst_6
  let main_v61 : FVec F S16x16x512 .f32 := Host.divf main_v59 main_v60
  let main_v62 : FVec F S16x16x512 .f32 := subf main_v58 main_v61
  fn_part3 (F := F) main_arg0 main_arg1 main_arg2 main_arg3 main_arg4 main_arg5 main_arg6 main_arg7 main_arg8 main_arg9 main_arg10 main_arg11 main_arg12 main_arg13 main_arg14 main_arg15 main_c_1 main_v62

def fn_part1 {F : FTy → Type} [FloatOps F] (main_arg0 : FVec F S16x512x32 .f32) (main_arg1 : IVec S16x512x3 32) (main_arg2 : FVec F S32x1024 .f32) (main_arg3 : FVec F S1024 .f32) (main_arg4 : FVec F S24x1024 .f32) (main_arg5 : FVec F S7x1024 .f32) (main_arg6 : FVec F S12x1024 .f32) (main_arg7 : FVec F S1x1000x1024 .f32) (main_arg8 : FVec F S3x1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_c : IVec S512 32) (main_c_0 : IVec S512 1) (main_c_1 : IVec S3 32) (main_v18 : FVec F S16x512x1024 .f32) (main_v19 : FVec F S16x1x1024 .f32) : IVec S16x512x3 1 × IVec S16x16x31 1 × IVec S16x512x32 1 × IVec S32x1024 1 × IVec S1024 1 × IVec S24x1024 1 × IVec S7x1024 1 × IVec S12x1024 1 × IVec S1x512x1024 1 × IVec S3x1024x1024 1 × IVec S1024 1 × IVec S1024x1024 1 × IVec S1024 1 × IVec S1024x1024 1 × IVec S1024 1 × IVec S1024x1024 1 × IVec S1024 1 :=
  let main_v20 : FVec F S16x511x1024 .f32 := (extractStridedSlice S16x511x1024 ![0, 0, 0] · slices_S16x512x1024_S16x511x1024_0_0_0) main_v18
  let main_v21 : FVec F S16x512x1024 .f32 := (fun a b => concatenate S16x512x1024 1 [⟨S16x1x1024, a⟩, ⟨S16x511x1024, b⟩] concatenates_S16x1x1024_S16x511x1024_S16x512x1024_d1) main_v19 main_v20
  let main_v22 : FVec F S1x1024x1024 .f32 := (extractStridedSlice S1x1024x1024 ![0, 0, 0] · slices_S3x1024x1024_S1x1024x1024_0_0_0) main_arg8
  let main_v23 : FVec F S1024x1024 .f32 := shapeCast S1024x1024 main_v22 shapeCasts_S1x1024x1024_S1024x1024
  let main_v24 : FVec F S16x512x1024 .f32 := (fun l r => Host.dotGeneral dot_S16x512x1024_S1024x1024_S16x512x1024_2_0_01_1_n_n none l r) main_v21 main_v23
  let main_v25 : FVec F S1x1024x1024 .f32 := (extractStridedSlice S1x1024x1024 ![1, 0, 0] · slices_S3x1024x1024_S1x1024x1024_1_0_0) main_arg8
  let main_v26 : FVec F S1024x1024 .f32 := shapeCast S1024x1024 main_v25 shapeCasts_S1x1024x1024_S1024x1024
  let main_v27 : FVec F S16x512x1024 .f32 := (fun l r => Host.dotGeneral dot_S16x512x1024_S1024x1024_S16x512x1024_2_0_01_1_n_n none l r) main_v18 main_v26
  let main_v28 : FVec F S16x512x1024 .f32 := addf main_v24 main_v27
  let main_cst_2 : FVec F S_ .f32 := constant S_ .f32 0x00000000#32
  let main_v29 : FVec F S16x1x1024 .f32 := broadcastInDim S16x1x1024 ![] bcast_S_S16x1x1024 main_cst_2
  let main_v30 : FVec F S16x511x1024 .f32 := (extractStridedSlice S16x511x1024 ![0, 1, 0] · slices_S16x512x1024_S16x511x1024_0_1_0) main_v18
  let main_v31 : FVec F S16x512x1024 .f32 := (fun a b => concatenate S16x512x1024 1 [⟨S16x511x1024, a⟩, ⟨S16x1x1024, b⟩] concatenates_S16x511x1024_S16x1x1024_S16x512x1024_d1) main_v30 main_v29
  let main_v32 : FVec F S1x1024x1024 .f32 := (extractStridedSlice S1x1024x1024 ![2, 0, 0] · slices_S3x1024x1024_S1x1024x1024_2_0_0) main_arg8
  let main_v33 : FVec F S1024x1024 .f32 := shapeCast S1024x1024 main_v32 shapeCasts_S1x1024x1024_S1024x1024
  let main_v34 : FVec F S16x512x1024 .f32 := (fun l r => Host.dotGeneral dot_S16x512x1024_S1024x1024_S16x512x1024_2_0_01_1_n_n none l r) main_v31 main_v33
  let main_v35 : FVec F S16x512x1024 .f32 := addf main_v28 main_v34
  let main_v36 : FVec F S1x1x1024 .f32 := broadcastInDim S1x1x1024 ![2] bcast_S1024_S1x1x1024_2 main_arg9
  let main_v37 : FVec F S16x512x1024 .f32 := broadcastInDim S16x512x1024 ![0, 1, 2] bcast_S1x1x1024_S16x512x1024_0_1_2 main_v36
  let main_v38 : FVec F S16x512x1024 .f32 := addf main_v35 main_v37
  let main_v39 : FVec F S16x512x1024 .f32 := fn_elu (F := F) main_v38
  let main_v40 : FVec F S16x512x1024 .f32 := (fun l r => Host.dotGeneral dot_S16x512x1024_S1024x1024_S16x512x1024_2_0_01_1_n_n none l r) main_v39 main_arg10
  let main_v41 : FVec F S1x1x1024 .f32 := broadcastInDim S1x1x1024 ![2] bcast_S1024_S1x1x1024_2 main_arg11
  let main_v42 : FVec F S16x512x1024 .f32 := broadcastInDim S16x512x1024 ![0, 1, 2] bcast_S1x1x1024_S16x512x1024_0_1_2 main_v41
  fn_part2 (F := F) main_arg0 main_arg1 main_arg2 main_arg3 main_arg4 main_arg5 main_arg6 main_arg7 main_arg8 main_arg9 main_arg10 main_arg11 main_arg12 main_arg13 main_arg14 main_arg15 main_c main_c_0 main_c_1 main_v39 main_v40 main_v42

def fn {F : FTy → Type} [FloatOps F] (main_arg0 : FVec F S16x512x32 .f32) (main_arg1 : IVec S16x512x3 32) (main_arg2 : FVec F S32x1024 .f32) (main_arg3 : FVec F S1024 .f32) (main_arg4 : FVec F S24x1024 .f32) (main_arg5 : FVec F S7x1024 .f32) (main_arg6 : FVec F S12x1024 .f32) (main_arg7 : FVec F S1x1000x1024 .f32) (main_arg8 : FVec F S3x1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) : IVec S16x512x3 1 × IVec S16x16x31 1 × IVec S16x512x32 1 × IVec S32x1024 1 × IVec S1024 1 × IVec S24x1024 1 × IVec S7x1024 1 × IVec S12x1024 1 × IVec S1x512x1024 1 × IVec S3x1024x1024 1 × IVec S1024 1 × IVec S1024x1024 1 × IVec S1024 1 × IVec S1024x1024 1 × IVec S1024 1 × IVec S1024x1024 1 × IVec S1024 1 :=
  let main_c : IVec S512 32 := fun i => lit0 (S512.rowMajor i)
  let main_c_0 : IVec S512 1 := constantI S512 1 0#1
  let main_c_1 : IVec S3 32 := fun i => lit1 (S3.rowMajor i)
  let main_v0 : FVec F S16x512x1024 .f32 := (fun l r => Host.dotGeneral dot_S16x512x32_S32x1024_S16x512x1024_2_0_01_1_n_n none l r) main_arg0 main_arg2
  let main_v1 : FVec F S1x1x1024 .f32 := broadcastInDim S1x1x1024 ![2] bcast_S1024_S1x1x1024_2 main_arg3
  let main_v2 : FVec F S16x512x1024 .f32 := broadcastInDim S16x512x1024 ![0, 1, 2] bcast_S1x1x1024_S16x512x1024_0_1_2 main_v1
  let main_v3 : FVec F S16x512x1024 .f32 := addf main_v0 main_v2
  let main_v4 : IVec S16x512x1 32 := (extractStridedSlice S16x512x1 ![0, 0, 0] · slices_S16x512x3_S16x512x1_0_0_0) main_arg1
  let main_v5 : IVec S16x512 32 := shapeCast S16x512 main_v4 shapeCasts_S16x512x1_S16x512
  let main_v6 : FVec F S16x512x1024 .f32 := fn_take (F := F) main_arg4 main_v5
  let main_v7 : IVec S16x512x1 32 := (extractStridedSlice S16x512x1 ![0, 0, 1] · slices_S16x512x3_S16x512x1_0_0_1) main_arg1
  let main_v8 : IVec S16x512 32 := shapeCast S16x512 main_v7 shapeCasts_S16x512x1_S16x512
  let main_v9 : FVec F S16x512x1024 .f32 := fn_take_0 (F := F) main_arg5 main_v8
  let main_v10 : IVec S16x512x1 32 := (extractStridedSlice S16x512x1 ![0, 0, 2] · slices_S16x512x3_S16x512x1_0_0_2) main_arg1
  let main_v11 : IVec S16x512 32 := shapeCast S16x512 main_v10 shapeCasts_S16x512x1_S16x512
  let main_v12 : FVec F S16x512x1024 .f32 := fn_take_1 (F := F) main_arg6 main_v11
  let main_v13 : FVec F S16x512x1024 .f32 := addf main_v6 main_v9
  let main_v14 : FVec F S16x512x1024 .f32 := addf main_v13 main_v12
  let main_v15 : FVec F S1x512x1024 .f32 := (extractStridedSlice S1x512x1024 ![0, 0, 0] · slices_S1x1000x1024_S1x512x1024_0_0_0) main_arg7
  let main_v16 : FVec F S16x512x1024 .f32 := broadcastInDim S16x512x1024 ![0, 1, 2] bcast_S1x512x1024_S16x512x1024_0_1_2 main_v15
  let main_v17 : FVec F S16x512x1024 .f32 := addf main_v3 main_v16
  let main_v18 : FVec F S16x512x1024 .f32 := addf main_v17 main_v14
  let main_cst : FVec F S_ .f32 := constant S_ .f32 0x00000000#32
  let main_v19 : FVec F S16x1x1024 .f32 := broadcastInDim S16x1x1024 ![] bcast_S_S16x1x1024 main_cst
  fn_part1 (F := F) main_arg0 main_arg1 main_arg2 main_arg3 main_arg4 main_arg5 main_arg6 main_arg7 main_arg8 main_arg9 main_arg10 main_arg11 main_arg12 main_arg13 main_arg14 main_arg15 main_c main_c_0 main_c_1 main_v18 main_v19
-- ==== Kernel.lean ====
abbrev S16x512x32 : Shape := ⟨3, ![16, 512, 32]⟩
abbrev S16x512x3 : Shape := ⟨3, ![16, 512, 3]⟩
abbrev S32x1024 : Shape := ⟨2, ![32, 1024]⟩
abbrev S1024 : Shape := ⟨1, ![1024]⟩
abbrev S24x1024 : Shape := ⟨2, ![24, 1024]⟩
abbrev S7x1024 : Shape := ⟨2, ![7, 1024]⟩
abbrev S12x1024 : Shape := ⟨2, ![12, 1024]⟩
abbrev S1x1000x1024 : Shape := ⟨3, ![1, 1000, 1024]⟩
abbrev S3x1024x1024 : Shape := ⟨3, ![3, 1024, 1024]⟩
abbrev S1024x1024 : Shape := ⟨2, ![1024, 1024]⟩
abbrev S_ : Shape := ⟨0, ![]⟩
abbrev S48x1024 : Shape := ⟨2, ![48, 1024]⟩
abbrev S1 : Shape := ⟨1, ![1]⟩
abbrev S1x512x1024 : Shape := ⟨3, ![1, 512, 1024]⟩
abbrev S512x1024 : Shape := ⟨2, ![512, 1024]⟩
abbrev S1x1024 : Shape := ⟨2, ![1, 1024]⟩
abbrev S16x512x1024 : Shape := ⟨3, ![16, 512, 1024]⟩
abbrev S1x512x32 : Shape := ⟨3, ![1, 512, 32]⟩
abbrev S1x512x3 : Shape := ⟨3, ![1, 512, 3]⟩
abbrev S16x512x64 : Shape := ⟨3, ![16, 512, 64]⟩
abbrev S16x64 : Shape := ⟨2, ![16, 64]⟩
abbrev S512x48 : Shape := ⟨2, ![512, 48]⟩
abbrev S1x512x1 : Shape := ⟨3, ![1, 512, 1]⟩
abbrev S512x1 : Shape := ⟨2, ![512, 1]⟩
abbrev S512x32 : Shape := ⟨2, ![512, 32]⟩
abbrev S511x1024 : Shape := ⟨2, ![511, 1024]⟩
abbrev S1x1024x1024 : Shape := ⟨3, ![1, 1024, 1024]⟩
abbrev S512x64 : Shape := ⟨2, ![512, 64]⟩
abbrev S1x512x64 : Shape := ⟨3, ![1, 512, 64]⟩
abbrev S64 : Shape := ⟨1, ![64]⟩
abbrev S1x64 : Shape := ⟨2, ![1, 64]⟩
abbrev S512x512 : Shape := ⟨2, ![512, 512]⟩
abbrev S512 : Shape := ⟨1, ![512]⟩
abbrev S1x512 : Shape := ⟨2, ![1, 512]⟩
abbrev S32x512 : Shape := ⟨2, ![32, 512]⟩
abbrev S32x64 : Shape := ⟨2, ![32, 64]⟩
abbrev S32 : Shape := ⟨1, ![32]⟩
abbrev S32x1 : Shape := ⟨2, ![32, 1]⟩

abbrev nBuf : Space → Nat
  | .hbm => 42
  | .vmem => 23
  | .smem => 0
  | _ => 0

abbrev bufTy : (tb : Table) → Fin (tcTables nBuf tb) → BufTy
  | .hbm, ⟨0, _⟩ => ⟨S16x512x32, .f32⟩
  | .hbm, ⟨1, _⟩ => ⟨S16x512x3, .i32⟩
  | .hbm, ⟨2, _⟩ => ⟨S32x1024, .f32⟩
  | .hbm, ⟨3, _⟩ => ⟨S1024, .f32⟩
  | .hbm, ⟨4, _⟩ => ⟨S24x1024, .f32⟩
  | .hbm, ⟨5, _⟩ => ⟨S7x1024, .f32⟩
  | .hbm, ⟨6, _⟩ => ⟨S12x1024, .f32⟩
  | .hbm, ⟨7, _⟩ => ⟨S1x1000x1024, .f32⟩
  | .hbm, ⟨8, _⟩ => ⟨S3x1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S_, .f32⟩
  | .hbm, ⟨17, _⟩ => ⟨S48x1024, .f32⟩
  | .hbm, ⟨18, _⟩ => ⟨S_, .i32⟩
  | .hbm, ⟨19, _⟩ => ⟨S1, .i32⟩
  | .hbm, ⟨20, _⟩ => ⟨S48x1024, .f32⟩
  | .hbm, ⟨21, _⟩ => ⟨S_, .i32⟩
  | .hbm, ⟨22, _⟩ => ⟨S1, .i32⟩
  | .hbm, ⟨23, _⟩ => ⟨S48x1024, .f32⟩
  | .hbm, ⟨24, _⟩ => ⟨S_, .i32⟩
  | .hbm, ⟨25, _⟩ => ⟨S1, .i32⟩
  | .hbm, ⟨26, _⟩ => ⟨S48x1024, .f32⟩
  | .hbm, ⟨27, _⟩ => ⟨S16x512x32, .bf16⟩
  | .hbm, ⟨28, _⟩ => ⟨S1x512x1024, .f32⟩
  | .hbm, ⟨29, _⟩ => ⟨S512x1024, .f32⟩
  | .hbm, ⟨30, _⟩ => ⟨S32x1024, .bf16⟩
  | .hbm, ⟨31, _⟩ => ⟨S48x1024, .bf16⟩
  | .hbm, ⟨32, _⟩ => ⟨S3x1024x1024, .bf16⟩
  | .hbm, ⟨33, _⟩ => ⟨S1024x1024, .bf16⟩
  | .hbm, ⟨34, _⟩ => ⟨S1024x1024, .bf16⟩
  | .hbm, ⟨35, _⟩ => ⟨S1024x1024, .bf16⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S16x512x1024, .f32⟩
  | .local _ .vmem, ⟨0, _⟩ => ⟨S1x512x32, .bf16⟩
  | .local _ .vmem, ⟨1, _⟩ => ⟨S1x512x32, .bf16⟩
  | .local _ .vmem, ⟨2, _⟩ => ⟨S1x512x3, .i32⟩
  | .local _ .vmem, ⟨3, _⟩ => ⟨S1x512x3, .i32⟩
  | .local _ .vmem, ⟨4, _⟩ => ⟨S512x1024, .f32⟩
  | .local _ .vmem, ⟨5, _⟩ => ⟨S32x1024, .bf16⟩
  | .local _ .vmem, ⟨6, _⟩ => ⟨S48x1024, .bf16⟩
  | .local _ .vmem, ⟨7, _⟩ => ⟨S3x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S16x512x64, .bf16⟩
  | .local _ .vmem, ⟨19, _⟩ => ⟨S16x512x64, .bf16⟩
  | .local _ .vmem, ⟨20, _⟩ => ⟨S16x512x64, .bf16⟩
  | .local _ .vmem, ⟨21, _⟩ => ⟨S16x64, .f32⟩
  | .local _ .vmem, ⟨22, _⟩ => ⟨S16x512x64, .bf16⟩
  | _, _ => ⟨S16x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_cst : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_c_0 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_v0 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![16, 1], ![false, false]⟩

def k0_off1 (i : grid0.Coords) (c0_i32_1 : BitVec 32) : Fin 3 → Nat :=
  let c16_i32 : BitVec 32 := 16#32
  let arg1 : BitVec 32 := BitVec.ofNat 32 (i 1).val
  let v3 : BitVec 32 := Scalar.muli c16_i32 arg1
  let v4 : BitVec 32 := Scalar.addi v3 c0_i32_1
  let v5 : Index := Scalar.indexCast v4
  let c0 : Index := 0#32
  let c0_2 : Index := 0#32
  ![v5.toNat, 0, 0]
def k0_off2 (i : grid0.Coords) (c0_i32_1 : BitVec 32) : Fin 2 → Nat :=
  let c16_i32 : BitVec 32 := 16#32
  let arg1 : BitVec 32 := BitVec.ofNat 32 (i 1).val
  let v3 : BitVec 32 := Scalar.muli c16_i32 arg1
  let v4 : BitVec 32 := Scalar.addi v3 c0_i32_1
  let v56 : Index := Scalar.indexCast v4
  let c0_19 : Index := 0#32
  ![v56.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S48x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S16x512x32 : Shape := ⟨3, ![16, 512, 32]⟩
abbrev S16x512x3 : Shape := ⟨3, ![16, 512, 3]⟩
abbrev S32x1024 : Shape := ⟨2, ![32, 1024]⟩
abbrev S1024 : Shape := ⟨1, ![1024]⟩
abbrev S24x1024 : Shape := ⟨2, ![24, 1024]⟩
abbrev S7x1024 : Shape := ⟨2, ![7, 1024]⟩
abbrev S12x1024 : Shape := ⟨2, ![12, 1024]⟩
abbrev S1x1000x1024 : Shape := ⟨3, ![1, 1000, 1024]⟩
abbrev S3x1024x1024 : Shape := ⟨3, ![3, 1024, 1024]⟩
abbrev S1024x1024 : Shape := ⟨2, ![1024, 1024]⟩
abbrev S512 : Shape := ⟨1, ![512]⟩
abbrev S16x512x1024 : Shape := ⟨3, ![16, 512, 1024]⟩
abbrev S1x1x1024 : Shape := ⟨3, ![1, 1, 1024]⟩
abbrev S16x512x1 : Shape := ⟨3, ![16, 512, 1]⟩
abbrev S16x512 : Shape := ⟨2, ![16, 512]⟩
abbrev S_ : Shape := ⟨0, ![]⟩
abbrev S1 : Shape := ⟨1, ![1]⟩
abbrev S1x1x1 : Shape := ⟨3, ![1, 1, 1]⟩
abbrev S1x512x1024 : Shape := ⟨3, ![1, 512, 1024]⟩
abbrev S16x1x1024 : Shape := ⟨3, ![16, 1, 1024]⟩
abbrev S16x511x1024 : Shape := ⟨3, ![16, 511, 1024]⟩
abbrev S1x1024x1024 : Shape := ⟨3, ![1, 1024, 1024]⟩
abbrev S16x512x16x64 : Shape := ⟨4, ![16, 512, 16, 64]⟩
abbrev S16x16x512x64 : Shape := ⟨4, ![16, 16, 512, 64]⟩
abbrev S512x1 : Shape := ⟨2, ![512, 1]⟩
abbrev S16x16x512x512 : Shape := ⟨4, ![16, 16, 512, 512]⟩
abbrev S16x16x512 : Shape := ⟨3, ![16, 16, 512]⟩
abbrev S16x16x31 : Shape := ⟨3, ![16, 16, 31]⟩
abbrev S16x16x31x1 : Shape := ⟨4, ![16, 16, 31, 1]⟩
abbrev S1x1x1x1 : Shape := ⟨4, ![1, 1, 1, 1]⟩
abbrev S16x16x31x64 : Shape := ⟨4, ![16, 16, 31, 64]⟩
abbrev S16x16x31x512 : Shape := ⟨4, ![16, 16, 31, 512]⟩
abbrev S16x16x64 : Shape := ⟨3, ![16, 16, 64]⟩
abbrev S16x16x1x64 : Shape := ⟨4, ![16, 16, 1, 64]⟩
abbrev S16 : Shape := ⟨1, ![16]⟩
abbrev S16x1x1 : Shape := ⟨3, ![16, 1, 1]⟩
abbrev S1x16x1 : Shape := ⟨3, ![1, 16, 1]⟩
abbrev S16x16x31x3 : Shape := ⟨4, ![16, 16, 31, 3]⟩

abbrev nBuf : Space → Nat
  | .hbm => 259
  | .vmem => 0
  | .smem => 0
  | _ => 0

abbrev hbmTy0_0 (i : Nat) : BufTy := match i % 128 with
  | 0 => ⟨S16x512x32, .f32⟩
  | 1 => ⟨S16x512x3, .i32⟩
  | 2 => ⟨S32x1024, .f32⟩
  | 3 => ⟨S1024, .f32⟩
  | 4 => ⟨S24x1024, .f32⟩
  | 5 => ⟨S7x1024, .f32⟩
  | 6 => ⟨S12x1024, .f32⟩
  | 7 => ⟨S1x1000x1024, .f32⟩
  | 8 => ⟨S3x1024x1024, .f32⟩
  | 9 => ⟨S1024, .f32⟩
  | 10 => ⟨S1024x1024, .f32⟩
  | 11 => ⟨S1024, .f32⟩
  | 12 => ⟨S1024x1024, .f32⟩
  | 13 => ⟨S1024, .f32⟩
  | 14 => ⟨S1024x1024, .f32⟩
  | 15 => ⟨S1024, .f32⟩
  | 16 => ⟨S512, .i32⟩
  | 17 => ⟨S512, .i1⟩
  | 18 => ⟨S16x512x1024, .f32⟩
  | 19 => ⟨S1x1x1024, .f32⟩
  | 20 => ⟨S16x512x1024, .f32⟩
  | 21 => ⟨S16x512x1024, .f32⟩
  | 22 => ⟨S16x512x1, .i32⟩
  | 23 => ⟨S16x512, .i32⟩
  | 24 => ⟨S_, .i32⟩
  | 25 => ⟨S16x512, .i32⟩
  | 26 => ⟨S16x512, .i1⟩
  | 27 => ⟨S_, .i32⟩
  | 28 => ⟨S16x512, .i32⟩
  | 29 => ⟨S16x512, .i32⟩
  | 30 => ⟨S16x512, .i32⟩
  | 31 => ⟨S16x512x1, .i32⟩
  | 32 => ⟨S1, .i32⟩
  | 33 => ⟨S_, .i32⟩
  | 34 => ⟨S16x512x1, .i32⟩
  | 35 => ⟨S16x512x1, .i1⟩
  | 36 => ⟨S1x1x1, .i32⟩
  | 37 => ⟨S16x512x1, .i32⟩
  | 38 => ⟨S16x512x1, .i1⟩
  | 39 => ⟨S16x512x1, .i1⟩
  | 40 => ⟨S_, .i1⟩
  | 41 => ⟨S16x512, .i1⟩
  | 42 => ⟨S16x512x1024, .f32⟩
  | 43 => ⟨S16x512x1024, .i1⟩
  | 44 => ⟨S_, .f32⟩
  | 45 => ⟨S16x512x1024, .f32⟩
  | 46 => ⟨S16x512x1024, .f32⟩
  | 47 => ⟨S16x512x1, .i32⟩
  | 48 => ⟨S16x512, .i32⟩
  | 49 => ⟨S_, .i32⟩
  | 50 => ⟨S16x512, .i32⟩
  | 51 => ⟨S16x512, .i1⟩
  | 52 => ⟨S_, .i32⟩
  | 53 => ⟨S16x512, .i32⟩
  | 54 => ⟨S16x512, .i32⟩
  | 55 => ⟨S16x512, .i32⟩
  | 56 => ⟨S16x512x1, .i32⟩
  | 57 => ⟨S1, .i32⟩
  | 58 => ⟨S_, .i32⟩
  | 59 => ⟨S16x512x1, .i32⟩
  | 60 => ⟨S16x512x1, .i1⟩
  | 61 => ⟨S1x1x1, .i32⟩
  | 62 => ⟨S16x512x1, .i32⟩
  | 63 => ⟨S16x512x1, .i1⟩
  | 64 => ⟨S16x512x1, .i1⟩
  | 65 => ⟨S_, .i1⟩
  | 66 => ⟨S16x512, .i1⟩
  | 67 => ⟨S16x512x1024, .f32⟩
  | 68 => ⟨S16x512x1024, .i1⟩
  | 69 => ⟨S_, .f32⟩
  | 70 => ⟨S16x512x1024, .f32⟩
  | 71 => ⟨S16x512x1024, .f32⟩
  | 72 => ⟨S16x512x1, .i32⟩
  | 73 => ⟨S16x512, .i32⟩
  | 74 => ⟨S_, .i32⟩
  | 75 => ⟨S16x512, .i32⟩
  | 76 => ⟨S16x512, .i1⟩
  | 77 => ⟨S_, .i32⟩
  | 78 => ⟨S16x512, .i32⟩
  | 79 => ⟨S16x512, .i32⟩
  | 80 => ⟨S16x512, .i32⟩
  | 81 => ⟨S16x512x1, .i32⟩
  | 82 => ⟨S1, .i32⟩
  | 83 => ⟨S_, .i32⟩
  | 84 => ⟨S16x512x1, .i32⟩
  | 85 => ⟨S16x512x1, .i1⟩
  | 86 => ⟨S1x1x1, .i32⟩
  | 87 => ⟨S16x512x1, .i32⟩
  | 88 => ⟨S16x512x1, .i1⟩
  | 89 => ⟨S16x512x1, .i1⟩
  | 90 => ⟨S_, .i1⟩
  | 91 => ⟨S16x512, .i1⟩
  | 92 => ⟨S16x512x1024, .f32⟩
  | 93 => ⟨S16x512x1024, .i1⟩
  | 94 => ⟨S_, .f32⟩
  | 95 => ⟨S16x512x1024, .f32⟩
  | 96 => ⟨S16x512x1024, .f32⟩
  | 97 => ⟨S16x512x1024, .f32⟩
  | 98 => ⟨S16x512x1024, .f32⟩
  | 99 => ⟨S1x512x1024, .f32⟩
  | 100 => ⟨S16x512x1024, .f32⟩
  | 101 => ⟨S16x512x1024, .f32⟩
  | 102 => ⟨S16x512x1024, .f32⟩
  | 103 => ⟨S_, .f32⟩
  | 104 => ⟨S16x1x1024, .f32⟩
  | 105 => ⟨S16x511x1024, .f32⟩
  | 106 => ⟨S16x512x1024, .f32⟩
  | 107 => ⟨S1x1024x1024, .f32⟩
  | 108 => ⟨S1024x1024, .f32⟩
  | 109 => ⟨S16x512x1024, .f32⟩
  | 110 => ⟨S1x1024x1024, .f32⟩
  | 111 => ⟨S1024x1024, .f32⟩
  | 112 => ⟨S16x512x1024, .f32⟩
  | 113 => ⟨S16x512x1024, .f32⟩
  | 114 => ⟨S_, .f32⟩
  | 115 => ⟨S16x1x1024, .f32⟩
  | 116 => ⟨S16x511x1024, .f32⟩
  | 117 => ⟨S16x512x1024, .f32⟩
  | 118 => ⟨S1x1024x1024, .f32⟩
  | 119 => ⟨S1024x1024, .f32⟩
  | 120 => ⟨S16x512x1024, .f32⟩
  | 121 => ⟨S16x512x1024, .f32⟩
  | 122 => ⟨S1x1x1024, .f32⟩
  | 123 => ⟨S16x512x1024, .f32⟩
  | 124 => ⟨S16x512x1024, .f32⟩
  | 125 => ⟨S_, .f32⟩
  | 126 => ⟨S16x512x1024, .f32⟩
  | 127 => ⟨S16x512x1024, .i1⟩
  | _ => ⟨S16x512x32, .f32⟩

abbrev hbmTy0_1 (i : Nat) : BufTy := match i % 128 with
  | 0 => ⟨S_, .f32⟩
  | 1 => ⟨S16x512x1024, .f32⟩
  | 2 => ⟨S16x512x1024, .i1⟩
  | 3 => ⟨S_, .f32⟩
  | 4 => ⟨S_, .f32⟩
  | 5 => ⟨S16x512x1024, .f32⟩
  | 6 => ⟨S16x512x1024, .f32⟩
  | 7 => ⟨S16x512x1024, .f32⟩
  | 8 => ⟨S_, .f32⟩
  | 9 => ⟨S16x512x1024, .f32⟩
  | 10 => ⟨S16x512x1024, .f32⟩
  | 11 => ⟨S16x512x1024, .f32⟩
  | 12 => ⟨S16x512x1024, .f32⟩
  | 13 => ⟨S1x1x1024, .f32⟩
  | 14 => ⟨S16x512x1024, .f32⟩
  | 15 => ⟨S16x512x1024, .f32⟩
  | 16 => ⟨S16x512x16x64, .f32⟩
  | 17 => ⟨S16x16x512x64, .f32⟩
  | 18 => ⟨S16x512x1024, .f32⟩
  | 19 => ⟨S1x1x1024, .f32⟩
  | 20 => ⟨S16x512x1024, .f32⟩
  | 21 => ⟨S16x512x1024, .f32⟩
  | 22 => ⟨S16x512x16x64, .f32⟩
  | 23 => ⟨S16x16x512x64, .f32⟩
  | 24 => ⟨S16x512x1024, .f32⟩
  | 25 => ⟨S1x1x1024, .f32⟩
  | 26 => ⟨S16x512x1024, .f32⟩
  | 27 => ⟨S16x512x1024, .f32⟩
  | 28 => ⟨S16x512x16x64, .f32⟩
  | 29 => ⟨S16x16x512x64, .f32⟩
  | 30 => ⟨S_, .i32⟩
  | 31 => ⟨S512, .i32⟩
  | 32 => ⟨S512, .i32⟩
  | 33 => ⟨S512, .i32⟩
  | 34 => ⟨S512x1, .i32⟩
  | 35 => ⟨S16x16x512x64, .f32⟩
  | 36 => ⟨S16x16x512x512, .f32⟩
  | 37 => ⟨S_, .f32⟩
  | 38 => ⟨S16x16x512, .f32⟩
  | 39 => ⟨S_, .f32⟩
  | 40 => ⟨S16x16x512, .f32⟩
  | 41 => ⟨S_, .f32⟩
  | 42 => ⟨S16x16x512, .f32⟩
  | 43 => ⟨S16x16x512, .f32⟩
  | 44 => ⟨S16x16x512, .f32⟩
  | 45 => ⟨S16x16x31, .f32⟩
  | 46 => ⟨S16x16x31, .i32⟩
  | 47 => ⟨S16x16x31x1, .i32⟩
  | 48 => ⟨S_, .i32⟩
  | 49 => ⟨S16x16x31x1, .i32⟩
  | 50 => ⟨S16x16x31x1, .i1⟩
  | 51 => ⟨S_, .i32⟩
  | 52 => ⟨S16x16x31x1, .i32⟩
  | 53 => ⟨S16x16x31x1, .i32⟩
  | 54 => ⟨S16x16x31x1, .i32⟩
  | 55 => ⟨S1, .i32⟩
  | 56 => ⟨S_, .i32⟩
  | 57 => ⟨S16x16x31x1, .i32⟩
  | 58 => ⟨S16x16x31x1, .i1⟩
  | 59 => ⟨S1x1x1x1, .i32⟩
  | 60 => ⟨S16x16x31x1, .i32⟩
  | 61 => ⟨S16x16x31x1, .i1⟩
  | 62 => ⟨S16x16x31x1, .i1⟩
  | 63 => ⟨S_, .i1⟩
  | 64 => ⟨S16x16x31, .i1⟩
  | 65 => ⟨S16x16x31x64, .f32⟩
  | 66 => ⟨S16x16x31x64, .i1⟩
  | 67 => ⟨S_, .f32⟩
  | 68 => ⟨S16x16x31x64, .f32⟩
  | 69 => ⟨S16x16x31x64, .f32⟩
  | 70 => ⟨S16x16x31x512, .f32⟩
  | 71 => ⟨S_, .f32⟩
  | 72 => ⟨S_, .f32⟩
  | 73 => ⟨S16x16x31x512, .f32⟩
  | 74 => ⟨S16x16x31x512, .f32⟩
  | 75 => ⟨S_, .f32⟩
  | 76 => ⟨S16x16x31, .f32⟩
  | 77 => ⟨S_, .f32⟩
  | 78 => ⟨S16x16x31, .f32⟩
  | 79 => ⟨S16x16x31, .f32⟩
  | 80 => ⟨S16x16x31x1, .f32⟩
  | 81 => ⟨S16x16x31x512, .f32⟩
  | 82 => ⟨S16x16x31x512, .f32⟩
  | 83 => ⟨S16x16x31x512, .f32⟩
  | 84 => ⟨S_, .f32⟩
  | 85 => ⟨S16x16x31, .f32⟩
  | 86 => ⟨S16x16x31x1, .f32⟩
  | 87 => ⟨S16x16x31x512, .f32⟩
  | 88 => ⟨S16x16x31x512, .f32⟩
  | 89 => ⟨S16x16x31x64, .f32⟩
  | 90 => ⟨S_, .f32⟩
  | 91 => ⟨S16x16x64, .f32⟩
  | 92 => ⟨S16x16x1x64, .f32⟩
  | 93 => ⟨S_, .f32⟩
  | 94 => ⟨S16x16x1x64, .f32⟩
  | 95 => ⟨S16x16x1x64, .f32⟩
  | 96 => ⟨S16x16x512x64, .f32⟩
  | 97 => ⟨S16, .i32⟩
  | 98 => ⟨S16x1x1, .i32⟩
  | 99 => ⟨S16, .i32⟩
  | 100 => ⟨S1x16x1, .i32⟩
  | 101 => ⟨S_, .i32⟩
  | 102 => ⟨S16x1x1, .i32⟩
  | 103 => ⟨S16x1x1, .i1⟩
  | 104 => ⟨S_, .i32⟩
  | 105 => ⟨S16x1x1, .i32⟩
  | 106 => ⟨S16x1x1, .i32⟩
  | 107 => ⟨S16x1x1, .i32⟩
  | 108 => ⟨S_, .i32⟩
  | 109 => ⟨S1x16x1, .i32⟩
  | 110 => ⟨S1x16x1, .i1⟩
  | 111 => ⟨S_, .i32⟩
  | 112 => ⟨S1x16x1, .i32⟩
  | 113 => ⟨S1x16x1, .i32⟩
  | 114 => ⟨S1x16x1, .i32⟩
  | 115 => ⟨S_, .i32⟩
  | 116 => ⟨S16x16x31, .i32⟩
  | 117 => ⟨S16x16x31, .i1⟩
  | 118 => ⟨S_, .i32⟩
  | 119 => ⟨S16x16x31, .i32⟩
  | 120 => ⟨S16x16x31, .i32⟩
  | 121 => ⟨S16x16x31, .i32⟩
  | 122 => ⟨S16x16x31, .i32⟩
  | 123 => ⟨S16x16x31, .i32⟩
  | 124 => ⟨S16x16x31x1, .i32⟩
  | 125 => ⟨S16x16x31x1, .i32⟩
  | 126 => ⟨S16x16x31x1, .i32⟩
  | 127 => ⟨S16x16x31x3, .i32⟩
  | _ => ⟨S16x512x32, .f32⟩

abbrev hbmTy0_2 (i : Nat) : BufTy := match i % 128 with
  | 0 => ⟨S16x16x512x64, .f32⟩
  | 1 => ⟨S16x512x16x64, .f32⟩
  | 2 => ⟨S16x512x1024, .f32⟩
  | _ => ⟨S16x512x32, .f32⟩

abbrev hbmTy (i : Nat) : BufTy := match i / 128 with
  | 0 => hbmTy0_0 i
  | 1 => hbmTy0_1 i
  | 2 => hbmTy0_2 i
  | _ => ⟨S16x512x32, .f32⟩

abbrev bufTy : (tb : Table) → Fin (tcTables nBuf tb) → BufTy
  | .hbm, ⟨i, _⟩ => hbmTy i
  | _, _ => ⟨S16x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v9 : Ref sig .tc := ⟨.hbm, 71, rfl⟩
abbrev main_v10 : Ref sig .tc := ⟨.hbm, 72, rfl⟩
abbrev main_v11 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_cst : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_cst_1 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_call3_cst : Ref sig .tc := ⟨.hbm, 125, rfl⟩
abbrev main_call3_v0 : Ref sig .tc := ⟨.hbm, 126, rfl⟩
abbrev main_call3_v1 : Ref sig .tc := ⟨.hbm, 127, rfl⟩
abbrev main_call3_cst_0 : Ref sig .tc := ⟨.hbm, 128, rfl⟩
abbrev main_call3_v2 : Ref sig .tc := ⟨.hbm, 129, rfl⟩
abbrev main_call3_v3 : Ref sig .tc := ⟨.hbm, 130, rfl⟩
abbrev main_call3_cst_1 : Ref sig .tc := ⟨.hbm, 131, rfl⟩
abbrev main_call3_call0_v0 : Ref sig .tc := ⟨.hbm, 132, rfl⟩
abbrev main_call3_call0_v1 : Ref sig .tc := ⟨.hbm, 133, rfl⟩
abbrev main_call3_v4 : Ref sig .tc := ⟨.hbm, 134, rfl⟩
abbrev main_call3_v5 : Ref sig .tc := ⟨.hbm, 135, rfl⟩
abbrev main_call3_cst_2 : Ref sig .tc := ⟨.hbm, 136, rfl⟩
abbrev main_call3_v6 : Ref sig .tc := ⟨.hbm, 137, rfl⟩
abbrev main_call3_v7 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_v42 : Ref sig .tc := ⟨.hbm, 142, rfl⟩
abbrev main_v43 : Ref sig .tc := ⟨.hbm, 143, rfl⟩
abbrev main_v44 : Ref sig .tc := ⟨.hbm, 144, rfl⟩
abbrev main_v45 : Ref sig .tc := ⟨.hbm, 145, rfl⟩
abbrev main_v46 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_v50 : Ref sig .tc := ⟨.hbm, 150, rfl⟩
abbrev main_v51 : Ref sig .tc := ⟨.hbm, 151, rfl⟩
abbrev main_v52 : Ref sig .tc := ⟨.hbm, 152, rfl⟩
abbrev main_v53 : Ref sig .tc := ⟨.hbm, 153, rfl⟩
abbrev main_v54 : Ref sig .tc := ⟨.hbm, 154, rfl⟩
abbrev main_v55 : Ref sig .tc := ⟨.hbm, 155, rfl⟩
abbrev main_v56 : Ref sig .tc := ⟨.hbm, 156, rfl⟩
abbrev main_v57 : Ref sig .tc := ⟨.hbm, 157, rfl⟩
abbrev main_c_2 : Ref sig .tc := ⟨.hbm, 158, rfl⟩
abbrev main_v58 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_cst_3 : Ref sig .tc := ⟨.hbm, 165, rfl⟩
abbrev main_v64 : Ref sig .tc := ⟨.hbm, 166, rfl⟩
abbrev main_cst_4 : Ref sig .tc := ⟨.hbm, 167, rfl⟩
abbrev main_v65 : Ref sig .tc := ⟨.hbm, 168, rfl⟩
abbrev main_cst_5 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_values : Ref sig .tc := ⟨.hbm, 173, rfl⟩
abbrev main_indices : Ref sig .tc := ⟨.hbm, 174, rfl⟩
abbrev main_v69 : Ref sig .tc := ⟨.hbm, 175, rfl⟩
abbrev main_call4_c : Ref sig .tc := ⟨.hbm, 176, rfl⟩
abbrev main_call4_v0 : Ref sig .tc := ⟨.hbm, 177, rfl⟩
abbrev main_call4_v1 : Ref sig .tc := ⟨.hbm, 178, rfl⟩
abbrev main_call4_c_0 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_call4_c_1 : Ref sig .tc := ⟨.hbm, 183, rfl⟩
abbrev main_call4_c_2 : Ref sig .tc := ⟨.hbm, 184, rfl⟩
abbrev main_call4_v5 : Ref sig .tc := ⟨.hbm, 185, rfl⟩
abbrev main_call4_v6 : Ref sig .tc := ⟨.hbm, 186, rfl⟩
abbrev main_call4_v7 : Ref sig .tc := ⟨.hbm, 187, rfl⟩
abbrev main_call4_v8 : Ref sig .tc := ⟨.hbm, 188, rfl⟩
abbrev main_call4_v9 : Ref sig .tc := ⟨.hbm, 189, rfl⟩
abbrev main_call4_v10 : Ref sig .tc := ⟨.hbm, 190, rfl⟩
abbrev main_call4_c_3 : Ref sig .tc := ⟨.hbm, 191, rfl⟩
abbrev main_call4_v11 : Ref sig .tc := ⟨.hbm, 192, rfl⟩
abbrev main_call4_v12 : Ref sig .tc := ⟨.hbm, 193, rfl⟩
abbrev main_call4_v13 : Ref sig .tc := ⟨.hbm, 194, rfl⟩
abbrev main_call4_cst : Ref sig .tc := ⟨.hbm, 195, rfl⟩
abbrev main_call4_v14 : Ref sig .tc := ⟨.hbm, 196, rfl⟩
abbrev main_v70 : Ref sig .tc := ⟨.hbm, 197, rfl⟩
abbrev main_v71 : Ref sig .tc := ⟨.hbm, 198, rfl⟩
abbrev main_cst_6 : Ref sig .tc := ⟨.hbm, 199, rfl⟩
abbrev main_v72 : Ref sig .tc := ⟨.hbm, 200, rfl⟩
abbrev main_v73 : Ref sig .tc := ⟨.hbm, 201, rfl⟩
abbrev main_v74 : Ref sig .tc := ⟨.hbm, 202, rfl⟩
abbrev main_cst_7 : Ref sig .tc := ⟨.hbm, 203, rfl⟩
abbrev main_v75 : Ref sig .tc := ⟨.hbm, 204, rfl⟩
abbrev main_cst_8 : Ref sig .tc := ⟨.hbm, 205, rfl⟩
abbrev main_v76 : Ref sig .tc := ⟨.hbm, 206, rfl⟩
abbrev main_v77 : Ref sig .tc := ⟨.hbm, 207, rfl⟩
abbrev main_v78 : Ref sig .tc := ⟨.hbm, 208, rfl⟩
abbrev main_v79 : Ref sig .tc := ⟨.hbm, 209, rfl⟩
abbrev main_v80 : Ref sig .tc := ⟨.hbm, 210, rfl⟩
abbrev main_v81 : Ref sig .tc := ⟨.hbm, 211, rfl⟩
abbrev main_cst_9 : Ref sig .tc := ⟨.hbm, 212, rfl⟩
abbrev main_v82 : Ref sig .tc := ⟨.hbm, 213, rfl⟩
abbrev main_v83 : Ref sig .tc := ⟨.hbm, 214, rfl⟩
abbrev main_v84 : Ref sig .tc := ⟨.hbm, 215, rfl⟩
abbrev main_v85 : Ref sig .tc := ⟨.hbm, 216, rfl⟩
abbrev main_v86 : Ref sig .tc := ⟨.hbm, 217, rfl⟩
abbrev main_cst_10 : Ref sig .tc := ⟨.hbm, 218, rfl⟩
abbrev main_v87 : Ref sig .tc := ⟨.hbm, 219, rfl⟩
abbrev main_v88 : Ref sig .tc := ⟨.hbm, 220, rfl⟩
abbrev main_cst_11 : Ref sig .tc := ⟨.hbm, 221, rfl⟩
abbrev main_v89 : Ref sig .tc := ⟨.hbm, 222, rfl⟩
abbrev main_v90 : Ref sig .tc := ⟨.hbm, 223, rfl⟩
abbrev main_v91 : Ref sig .tc := ⟨.hbm, 224, rfl⟩
abbrev main_v92 : Ref sig .tc := ⟨.hbm, 225, rfl⟩
abbrev main_v93 : Ref sig .tc := ⟨.hbm, 226, rfl⟩
abbrev main_v94 : Ref sig .tc := ⟨.hbm, 227, rfl⟩
abbrev main_v95 : Ref sig .tc := ⟨.hbm, 228, rfl⟩
abbrev main_c_12 : Ref sig .tc := ⟨.hbm, 229, rfl⟩
abbrev main_v96 : Ref sig .tc := ⟨.hbm, 230, rfl⟩
abbrev main_v97 : Ref sig .tc := ⟨.hbm, 231, rfl⟩
abbrev main_c_13 : Ref sig .tc := ⟨.hbm, 232, rfl⟩
abbrev main_v98 : Ref sig .tc := ⟨.hbm, 233, rfl⟩
abbrev main_v99 : Ref sig .tc := ⟨.hbm, 234, rfl⟩
abbrev main_v100 : Ref sig .tc := ⟨.hbm, 235, rfl⟩
abbrev main_c_14 : Ref sig .tc := ⟨.hbm, 236, rfl⟩
abbrev main_v101 : Ref sig .tc := ⟨.hbm, 237, rfl⟩
abbrev main_v102 : Ref sig .tc := ⟨.hbm, 238, rfl⟩
abbrev main_c_15 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_c_16 : Ref sig .tc := ⟨.hbm, 243, rfl⟩
abbrev main_v106 : Ref sig .tc := ⟨.hbm, 244, rfl⟩
abbrev main_v107 : Ref sig .tc := ⟨.hbm, 245, rfl⟩
abbrev main_c_17 : Ref sig .tc := ⟨.hbm, 246, rfl⟩
abbrev main_v108 : Ref sig .tc := ⟨.hbm, 247, rfl⟩
abbrev main_v109 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_v116 : Ref sig .tc := ⟨.hbm, 255, rfl⟩
abbrev main_v117 : Ref sig .tc := ⟨.hbm, 256, rfl⟩
abbrev main_v118 : Ref sig .tc := ⟨.hbm, 257, rfl⟩
abbrev main_v119 : Ref sig .tc := ⟨.hbm, 258, rfl⟩

abbrev nD : Nat := 1
abbrev τ : Topo := Topo.v7x

variable {F : FTy → Type} [FloatOps F]
-- ==== Proof.Head.lean ====
/- The mathematics of one head, over the extended reals: sparse attention as the kernel computes it (a rank by counting, a
   one-hot selection, a product with its transpose to put the rows back) equals sparse attention as the reference states it
   (the first 31 queries of a sort by the measure attend, every other row is the mean of the values). -/
module

public import Idealize.ShloMosaic.Lib.Pointwise

@[expose] public section

noncomputable section

namespace Cert.Sparse

open Idealize.ShloMosaic

/-- One head's queries, keys or values: 512 rows of 64 columns. -/
abbrev Rows := Fin 512 → Fin 64 → EReal

/-- The greatest of finitely many extended reals. -/
def top {n : ℕ} (f : Fin n → EReal) : EReal := Finset.univ.fold max ⊥ f

/-- The mean of a column. -/
def colMean (x : Rows) (d : Fin 64) : EReal := Ideal.div (∑ n, x n d) ((512 : ℝ) : EReal)

/-- The sparsity measure as the kernel has it: the greatest score of query `i` against the keys less their mean. -/
def peak (q k : Rows) (i : Fin 512) : EReal := top fun n => ∑ d, q i d * (k n d - colMean k d)

/-- The sparsity measure as the reference has it, on the keys in the order `σ`: the greatest score less the mean score. -/
def measureOn (σ : Fin 512 → Fin 512) (q k : Rows) (i : Fin 512) : EReal :=
  top (fun n => ∑ d, q i d * k (σ n) d) - Ideal.div (∑ n, ∑ d, q i d * k (σ n) d) ((512 : ℝ) : EReal)

/-- The exponentials of a softmax, shifted by the greatest entry. -/
def weight (f : Fin 512 → EReal) (n : Fin 512) : EReal := Ideal.exp (f n - top f)

/-- Query `i`'s scaled scores. -/
def score (q k : Rows) (i n : Fin 512) : EReal := (∑ d, q i d * k n d) * ((1 / 8 : ℝ) : EReal)

/-- Query `i`'s attention over all the keys. -/
def attend (q k v : Rows) (i : Fin 512) (d : Fin 64) : EReal :=
  ∑ n, Ideal.div (weight (score q k i) n) (∑ n', weight (score q k i) n') * v n d

/-- How many queries have a greater measure than query `j`. -/
def rank (q k : Rows) (j : Fin 512) : EReal := ∑ i, if peak q k j < peak q k i then 1 else 0

/-- The kernel's selection matrix: row `p` marks the query of rank `p`, row 31 is empty. -/
def pick (q k : Rows) (p : Fin 32) (j : Fin 512) : EReal := if rank q k j = ((p.val : ℝ) : EReal) ∧ p.val < 31 then 1 else 0

/-- The scaled scores of the query that row `p` selects. -/
def kScore (q k : Rows) (p : Fin 32) (n : Fin 512) : EReal :=
  (∑ d, (∑ j, pick q k p j * q j d) * k n d) * ((1 / 8 : ℝ) : EReal)

/-- The attention of the query that row `p` selects, the softmax normalised by a product with the reciprocal. -/
def kOut (q k v : Rows) (p : Fin 32) (d : Fin 64) : EReal :=
  ∑ n, weight (kScore q k p) n * Ideal.div 1 (∑ n', weight (kScore q k p) n') * v n d

/-- The head as the kernel computes it. -/
def kHead (q k v : Rows) (s : Fin 512) (d : Fin 64) : EReal :=
  colMean v d + ∑ p, pick q k p s * (kOut q k v p d - colMean v d)

/-! ## Sums and greatest entries -/

/-- A finite sum of reals is a real. -/
theorem coe_sum {ι : Type} [Fintype ι] (f : ι → ℝ) : ∑ i, (f i : EReal) = ((∑ i, f i : ℝ) : EReal) :=
  (map_sum (⟨⟨Real.toEReal, rfl⟩, EReal.coe_add⟩ : ℝ →+ EReal) f Finset.univ).symm

/-- The greatest entry is any entry that no other exceeds. -/
theorem top_eq {n : ℕ} (f : Fin n → EReal) (j : Fin n) (h : ∀ i, f i ≤ f j) : top f = f j :=
  le_antisymm (Finset.fold_max_le _ |>.2 ⟨bot_le, fun i _ => h i⟩) (Finset.le_fold_max _ |>.2 (.inr ⟨j, Finset.mem_univ j, le_rfl⟩))

/-- The greatest entry does not depend on the order of the entries. -/
theorem top_comp {n : ℕ} (f : Fin n → EReal) (σ : Fin n → Fin n) (hσ : Function.Surjective σ) : top (fun i => f (σ i)) = top f := by
  refine le_antisymm (Finset.fold_max_le _ |>.2 ⟨bot_le, fun i _ => Finset.le_fold_max _ |>.2 (.inr ⟨σ i, Finset.mem_univ _, le_rfl⟩)⟩)
    (Finset.fold_max_le _ |>.2 ⟨bot_le, fun i _ => Finset.le_fold_max _ |>.2 (.inr ?_)⟩)
  obtain ⟨j, rfl⟩ := hσ i
  exact ⟨j, Finset.mem_univ _, le_rfl⟩

/-- The mean of reals. -/
theorem mean_coe {ι : Type} [Fintype ι] (f : ι → ℝ) :
    Ideal.div (∑ i, (f i : EReal)) ((512 : ℝ) : EReal) = (((∑ i, f i) / 512 : ℝ) : EReal) := by
  rw [coe_sum, Ideal.div_coe (by norm_num), ← EReal.coe_mul]
  congr 1; ring

/-- The measure does not depend on the order in which the keys are sampled. -/
theorem measureOn_eq (σ : Fin 512 → Fin 512) (hσ : Function.Bijective σ) (q k : Rows) (i : Fin 512) :
    measureOn σ q k i = measureOn id q k i := by
  unfold measureOn
  rw [top_comp (fun n => ∑ d, q i d * k n d) σ hσ.2, hσ.sum_comp (fun n => ∑ d, q i d * k n d)]
  rfl

/-- On reals the kernel's measure is the reference's: taking the mean key off every key takes the mean score off every score. -/
theorem peak_eq (q k : Fin 512 → Fin 64 → ℝ) (i : Fin 512) :
    peak (fun i d => (q i d : EReal)) (fun n d => (k n d : EReal)) i
      = measureOn id (fun i d => (q i d : EReal)) (fun n d => (k n d : EReal)) i := by
  have hs : ∀ n, ∑ d, (q i d : EReal) * (k n d : EReal) = ((∑ d, q i d * k n d : ℝ) : EReal) := fun n => by
    rw [← coe_sum]; exact Finset.sum_congr rfl fun d _ => (EReal.coe_mul _ _).symm
  have hc : ∀ n, ∑ d, (q i d : EReal) * ((k n d : EReal) - colMean (fun n d => (k n d : EReal)) d)
      = ((∑ d, q i d * k n d - (∑ n, ∑ d, q i d * k n d) / 512 : ℝ) : EReal) := fun n => by
    have e : (∑ d, q i d * k n d - (∑ n, ∑ d, q i d * k n d) / 512 : ℝ) = ∑ d, q i d * (k n d - (∑ n, k n d) / 512) := by
      rw [Finset.sum_comm, Finset.sum_div, ← Finset.sum_sub_distrib]
      refine Finset.sum_congr rfl fun d _ => ?_
      rw [← Finset.mul_sum]; ring
    rw [e, ← coe_sum]
    refine Finset.sum_congr rfl fun d _ => ?_
    rw [colMean, mean_coe, ← EReal.coe_sub, ← EReal.coe_mul]
  obtain ⟨j, hj⟩ := Finite.exists_max fun n => ∑ d, q i d * k n d
  unfold peak measureOn
  simp only [id, hs, hc]
  rw [top_eq _ j fun n => EReal.coe_le_coe_iff.2 (sub_le_sub_right (hj n) _), top_eq _ j fun n => EReal.coe_le_coe_iff.2 (hj n),
    mean_coe, ← EReal.coe_sub]

/-- On reals a product with the reciprocal of the sum of the weights is the quotient by it. -/
theorem weight_normal (f : Fin 512 → ℝ) (n : Fin 512) :
    weight (fun n => (f n : EReal)) n * Ideal.div 1 (∑ n', weight (fun n => (f n : EReal)) n')
      = Ideal.div (weight (fun n => (f n : EReal)) n) (∑ n', weight (fun n => (f n : EReal)) n') := by
  obtain ⟨j, hj⟩ := Finite.exists_max f
  have hw : ∀ n, weight (fun n => (f n : EReal)) n = ((Real.exp (f n - f j) : ℝ) : EReal) := fun n => by
    rw [weight, top_eq _ j fun n => EReal.coe_le_coe_iff.2 (hj n), ← EReal.coe_sub, Ideal.exp_coe]
  have hpos : (0 : ℝ) < ∑ n', Real.exp (f n' - f j) := Finset.sum_pos (fun _ _ => Real.exp_pos _) ⟨j, Finset.mem_univ j⟩
  simp only [hw, coe_sum]
  rw [Ideal.div_coe hpos.ne', Ideal.div_coe hpos.ne', one_mul]

/-- Adding a real to a difference from it. -/
theorem coe_add_sub (x : ℝ) (y : EReal) : (x : EReal) + (y - (x : EReal)) = y := by
  induction y with
  | bot => simp
  | top => simp
  | coe y => rw [← EReal.coe_sub, ← EReal.coe_add]; congr 1; ring

/-! ## The ranks -/

section
variable (q k : Fin 512 → Fin 64 → ℝ)

/-- A count as a sum of ones. -/
theorem count_coe (c : Fin 512 → Prop) [DecidablePred c] :
    (∑ i, if c i then (1 : EReal) else 0) = (((Finset.univ.filter c).card : ℝ) : EReal) := by
  have : ∀ i, (if c i then (1 : EReal) else 0) = ((if c i then 1 else 0 : ℝ) : EReal) := fun i => by split <;> simp
  simp only [this, coe_sum, Finset.sum_boole]

variable (π : Fin 512 → Fin 512) (hπ : Function.Bijective π)
  (hanti : ∀ a b : Fin 512, a < b →
    ¬ measureOn id (fun i d => (q i d : EReal)) (fun n d => (k n d : EReal)) (π a)
      < measureOn id (fun i d => (q i d : EReal)) (fun n d => (k n d : EReal)) (π b))
  (hstrict : ∀ a b : Fin 512, a.val + 1 = b.val → b.val < 32 →
    measureOn id (fun i d => (q i d : EReal)) (fun n d => (k n d : EReal)) (π b)
      < measureOn id (fun i d => (q i d : EReal)) (fun n d => (k n d : EReal)) (π a))
include hπ hanti hstrict

/-- In the sorted order `π` no tie is met up to position 31, so row `p` of the selection matrix marks the `p`-th query and no other. -/
theorem pick_sorted (p : Fin 32) (a : Fin 512) :
    pick (fun i d => (q i d : EReal)) (fun n d => (k n d : EReal)) p (π a) = if a.val = p.val ∧ p.val < 31 then 1 else 0 := by
  have hlt : ∀ a b : Fin 512, a < b → a.val < 31 → measureOn id (fun i d => (q i d : EReal)) (fun n d => (k n d : EReal)) (π b)
      < measureOn id (fun i d => (q i d : EReal)) (fun n d => (k n d : EReal)) (π a) := fun a b hab ha => by
    have hb : a.val < b.val := hab
    have hn := hstrict a ⟨a.val + 1, by omega⟩ rfl (by show a.val + 1 < 32; omega)
    rcases eq_or_lt_of_le (show (⟨a.val + 1, by omega⟩ : Fin 512) ≤ b from hb) with e | e
    · rw [← e]; exact hn
    · exact lt_of_le_of_lt (not_lt.1 (hanti _ _ e)) hn
  unfold pick rank
  simp only [peak_eq]
  rw [← hπ.sum_comp, count_coe]
  simp only [EReal.coe_eq_coe_iff, Nat.cast_inj]
  refine if_congr ?_ rfl rfl
  by_cases ha : a.val < 31
  · have : (Finset.univ.filter fun r : Fin 512 => measureOn id (fun i d => (q i d : EReal)) (fun n d => (k n d : EReal)) (π a)
        < measureOn id (fun i d => (q i d : EReal)) (fun n d => (k n d : EReal)) (π r)) = Finset.Iio a := by
      ext r
      simp only [Finset.mem_filter, Finset.mem_univ, true_and, Finset.mem_Iio]
      constructor
      · intro h
        rcases lt_trichotomy r a with e | e | e
        · exact e
        · rw [e] at h; exact absurd h (lt_irrefl _)
        · exact absurd h (hanti _ _ e)
      · intro h
        exact hlt r a h (lt_trans (show r.val < a.val from h) ha)
    rw [this, Fin.card_Iio]
  · have : 31 ≤ (Finset.univ.filter fun r : Fin 512 => measureOn id (fun i d => (q i d : EReal)) (fun n d => (k n d : EReal)) (π a)
        < measureOn id (fun i d => (q i d : EReal)) (fun n d => (k n d : EReal)) (π r)).card := by
      have hs : Finset.Iio (⟨31, by norm_num⟩ : Fin 512) ⊆ (Finset.univ.filter fun r : Fin 512 =>
          measureOn id (fun i d => (q i d : EReal)) (fun n d => (k n d : EReal)) (π a)
            < measureOn id (fun i d => (q i d : EReal)) (fun n d => (k n d : EReal)) (π r)) := fun r hr => by
        have hr' : r.val < 31 := by simpa [Finset.mem_Iio, Fin.lt_def] using hr
        exact Finset.mem_filter.2 ⟨Finset.mem_univ _, hlt r a (by rw [Fin.lt_def]; omega) hr'⟩
      simpa [Fin.card_Iio] using Finset.card_le_card hs
    constructor
    · rintro ⟨h1, h2⟩; omega
    · rintro ⟨h1, h2⟩; omega

/-- Row `p < 31` of the selected queries is the `p`-th query in the sorted order. -/
theorem kScore_sorted (p : Fin 32) (hp : p.val < 31) :
    kScore (fun i d => (q i d : EReal)) (fun n d => (k n d : EReal)) p
      = score (fun i d => (q i d : EReal)) (fun n d => (k n d : EReal)) (π ⟨p.val, by omega⟩) := by
  funext n
  unfold kScore score
  congr 1
  refine Finset.sum_congr rfl fun d _ => ?_
  congr 1
  rw [← hπ.sum_comp, Finset.sum_eq_single (⟨p.val, by omega⟩ : Fin 512)]
  · rw [pick_sorted q k π hπ hanti hstrict, if_pos ⟨rfl, hp⟩, one_mul]
  · intro a _ ha
    rw [pick_sorted q k π hπ hanti hstrict, if_neg fun h => ha (Fin.ext h.1), zero_mul]
  · exact fun h => absurd (Finset.mem_univ _) h

/-- The kernel's attention of row `p < 31` is the attention of the `p`-th query in the sorted order. -/
theorem kOut_sorted (v : Rows) (p : Fin 32) (hp : p.val < 31) (d : Fin 64) :
    kOut (fun i d => (q i d : EReal)) (fun n d => (k n d : EReal)) v p d
      = attend (fun i d => (q i d : EReal)) (fun n d => (k n d : EReal)) v (π ⟨p.val, by omega⟩) d := by
  unfold kOut attend
  rw [kScore_sorted q k π hπ hanti hstrict p hp]
  have hr : score (fun i d => (q i d : EReal)) (fun n d => (k n d : EReal)) (π ⟨p.val, by omega⟩)
      = fun n => (((∑ e, q (π ⟨p.val, by omega⟩) e * k n e) * (1 / 8) : ℝ) : EReal) := by
    funext n
    unfold score
    rw [EReal.coe_mul, ← coe_sum]
    congr 1
  rw [hr]
  exact Finset.sum_congr rfl fun n _ => by rw [weight_normal]

/-- THE HEAD: at a query among the first 31 of the sorted order the kernel gives its attention, at any other the mean of the values. -/
theorem kHead_sorted (v : Fin 512 → Fin 64 → ℝ) (a : Fin 512) (d : Fin 64) :
    kHead (fun i d => (q i d : EReal)) (fun n d => (k n d : EReal)) (fun n d => (v n d : EReal)) (π a) d
      = if a.val < 31 then attend (fun i d => (q i d : EReal)) (fun n d => (k n d : EReal)) (fun n d => (v n d : EReal)) (π a) d
        else colMean (fun n d => (v n d : EReal)) d := by
  unfold kHead
  simp only [pick_sorted q k π hπ hanti hstrict]
  split
  · rename_i ha
    rw [Finset.sum_eq_single (⟨a.val, by omega⟩ : Fin 32)]
    · rw [if_pos ⟨rfl, ha⟩, one_mul, kOut_sorted q k π hπ hanti hstrict _ ⟨a.val, by omega⟩ ha]
      rw [show colMean (fun n d => (v n d : EReal)) d = (((∑ n, v n d) / 512 : ℝ) : EReal) from mean_coe _, coe_add_sub]
    · intro p _ hp
      rw [if_neg fun h => hp (Fin.ext h.1.symm), zero_mul]
    · exact fun h => absurd (Finset.mem_univ _) h
  · rename_i ha
    rw [Finset.sum_eq_zero, add_zero]
    intro p _
    rw [if_neg fun h : a.val = p.val ∧ p.val < 31 => ha (h.1 ▸ h.2), zero_mul]

end

end Cert.Sparse

end
-- ==== Proof.Model.lean ====
/- The mathematics of the layer in front of the heads, over the extended reals: the embedding, the convolution of width 3, elu and
   the linear maps to queries, keys and values, as functions of rows and columns. -/
module

public import proofs.«01_k».proof.Proof.Head

@[expose] public section

noncomputable section

namespace Cert.Sparse

open Idealize.ShloMosaic

/-- A sequence of 512 rows of the model's 1024 columns. -/
abbrev Seq := Fin 512 → Fin 1024 → EReal

/-- The embedding: the values' linear map, its bias, the position rows and the time rows `t`. -/
def embed (x : Fin 512 → Fin 32 → EReal) (W : Fin 32 → Fin 1024 → EReal) (b : Fin 1024 → EReal) (pos t : Seq) : Seq := fun s e =>
  ((∑ d, x s d * W d e + b e) + pos s e) + t s e

/-- The rows moved down by one, a row of zeros in front. -/
def above (x : Seq) : Seq := fun s j => if h : s.val < 1 then 0 else x ⟨s.val - 1, by omega⟩ j

/-- The rows moved up by one, a row of zeros behind. -/
def below (x : Seq) : Seq := fun s j => if h : s.val < 511 then x ⟨1 + s.val, by omega⟩ j else 0

/-- The convolution of width 3 along the rows. -/
def conv (x : Seq) (W : Fin 3 → Fin 1024 → Fin 1024 → EReal) (b : Fin 1024 → EReal) : Seq := fun s e =>
  ((∑ j, above x s j * W 0 j e + ∑ j, x s j * W 1 j e) + ∑ j, below x s j * W 2 j e) + b e

/-- elu. -/
def elu (x : EReal) : EReal := if 0 < x then x else Ideal.exp x - 1

/-- A linear map of the rows with a bias. -/
def lin (x : Seq) (W : Fin 1024 → Fin 1024 → EReal) (b : Fin 1024 → EReal) : Seq := fun s e => ∑ j, x s j * W j e + b e

/-- The 64 columns of head `h`. -/
def cols (h : Fin 16) (y : Seq) : Rows := fun s d => y s ⟨64 * h.val + d.val, by omega⟩

/-- The sum of a table's rows below 24, from 24 to 30 and from 31 to 42 chosen by `a`, `b` and `c` with a one-hot of three ones is the sum of the three rows. -/
theorem oneHot_sum (T : Fin 48 → EReal) (a : Fin 24) (b : Fin 7) (c : Fin 12) :
    (∑ r : Fin 48, (if r.val = a.val ∨ r.val = b.val + 24 ∨ r.val = c.val + 31 then (1 : EReal) else 0) * T r)
      = (T ⟨a.val, by omega⟩ + T ⟨b.val + 24, by omega⟩) + T ⟨c.val + 31, by omega⟩ := by
  have h : ∀ r : Fin 48, (if r.val = a.val ∨ r.val = b.val + 24 ∨ r.val = c.val + 31 then (1 : EReal) else 0) * T r
      = ((if r = ⟨a.val, by omega⟩ then T r else 0) + (if r = ⟨b.val + 24, by omega⟩ then T r else 0))
        + (if r = ⟨c.val + 31, by omega⟩ then T r else 0) := fun r => by
    simp only [Fin.ext_iff]
    by_cases h1 : r.val = a.val
    · rw [if_pos (.inl h1), if_pos h1, if_neg (by omega), if_neg (by omega), one_mul, add_zero, add_zero]
    · by_cases h2 : r.val = b.val + 24
      · rw [if_pos (.inr (.inl h2)), if_neg h1, if_pos h2, if_neg (by omega), one_mul, zero_add, add_zero]
      · by_cases h3 : r.val = c.val + 31
        · rw [if_pos (.inr (.inr h3)), if_neg h1, if_neg h2, if_pos h3, one_mul, zero_add, zero_add]
        · rw [if_neg (by rintro (h | h | h) <;> contradiction), if_neg h1, if_neg h2, if_neg h3, zero_mul, zero_add, zero_add]
  simp only [h, Finset.sum_add_distrib, Finset.sum_ite_eq', Finset.mem_univ, if_true]

end Cert.Sparse

end
-- ==== Proof.Pay.lean ====
/- The values that the kernel's body computes, read at an index over the extended reals. -/
module

public import proofs.«01_k».proof.Proof.Gen.KernelIdeal.Skeleton
public import proofs.«01_k».proof.Proof.Model

@[expose] public section

set_option maxRecDepth 16384

noncomputable section

namespace Cert.KernelIdeal.Pay

open Cert.KernelIdeal Cert.KernelIdeal.Gen Cert.Sparse Idealize.ShloMosaic

/-! ## Words -/

/-- A condition's bit as a float. -/
theorem bit_float (φ : FTy) (c : Prop) [Decidable c] :
    FloatOps.sitofp (F := Ideal) φ (BitVec.setWidth 32 (BitVec.ofBool (decide c))) = if c then 1 else 0 := by
  have h1 : (BitVec.setWidth 32 (BitVec.ofBool true)).toInt = 1 := by decide
  have h0 : (BitVec.setWidth 32 (BitVec.ofBool false)).toInt = 0 := by decide
  by_cases h : c
  · simp only [h, decide_true, if_true]
    show (((BitVec.setWidth 32 (BitVec.ofBool true)).toInt : ℝ) : EReal) = 1
    rw [h1]; norm_num
  · simp only [h, decide_false, if_false]
    show (((BitVec.setWidth 32 (BitVec.ofBool false)).toInt : ℝ) : EReal) = 0
    rw [h0]; norm_num

/-- A small natural number as a float. -/
theorem nat_float (φ : FTy) (p : ℕ) (hp : p < 2 ^ 31) : FloatOps.sitofp (F := Ideal) φ (BitVec.ofNat 32 p) = ((p : ℝ) : EReal) := by
  show (((BitVec.ofNat 32 p).toInt : ℝ) : EReal) = _
  have h : (BitVec.ofNat 32 p).toInt = (p : ℤ) := by
    rw [BitVec.toInt_eq_toNat_of_lt (by rw [BitVec.toNat_ofNat]; omega), BitVec.toNat_ofNat, Nat.mod_eq_of_lt (by omega)]
  rw [h]; norm_cast

/-- The conjunction of two decisions as bits. -/
theorem and_bits (c d : Prop) [Decidable c] [Decidable d] :
    IntOp.andi (BitVec.ofBool (decide c)) (BitVec.ofBool (decide d)) = BitVec.ofBool (decide (c ∧ d)) := by
  by_cases h : c <;> by_cases h' : d <;> simp [h, h', IntOp.andi]

/-- The disjunction of two decisions as bits. -/
theorem or_bits (c d : Prop) [Decidable c] [Decidable d] :
    IntOp.ori (BitVec.ofBool (decide c)) (BitVec.ofBool (decide d)) = BitVec.ofBool (decide (c ∨ d)) := by
  by_cases h : c <;> by_cases h' : d <;> simp [h, h', IntOp.ori]

/-- The literal for minus infinity. -/
theorem ofBits_bot : Ideal.ofBits .f32 0xFF800000#32 = ⊥ := by simp [Ideal.ofBits, Ideal.ieee, -EReal.coe_mul]

/-- The literal 31. -/
theorem ofBits_31 : Ideal.ofBits .f32 0x41F80000#32 = ((31 : ℝ) : EReal) := by
  simp [Ideal.ofBits, Ideal.ieee, -EReal.coe_mul]; norm_num

/-- The literal 512. -/
theorem ofBits_512 : Ideal.ofBits .f32 0x44000000#32 = ((512 : ℝ) : EReal) := by
  simp [Ideal.ofBits, Ideal.ieee, -EReal.coe_mul]; norm_num

/-- The literal 1/8. -/
theorem ofBits_eighth : Ideal.ofBits .f32 0x3E000000#32 = ((1 / 8 : ℝ) : EReal) := by
  simp [Ideal.ofBits, Ideal.ieee, -EReal.coe_mul]; norm_num

/-! ## A head -/

section
variable (q k v kc : Vec Ideal S1x512x64 .bf16) (mean : Vec Ideal S1x64 .f32) (Q K V : Rows)

/-- The body's selection matrix is `pick`. -/
theorem pick_apply (hq : ∀ s d, q (ix3 0 s d) = Q s d) (hc : ∀ s d, kc (ix3 0 s d) = K s d - colMean K d) (p : Fin 32) (j : Fin 512) :
    k0_pay193 q kc (ix2 p j) = pick Q K p j := by
  pointwise [k0_pay193, k0_pay191]
  simp only [hq, hc, bit_float, and_bits, nat_float .f32 p.val (by omega), ofBits_bot, ofBits_31, EReal.coe_lt_coe_iff]
  unfold pick rank peak top
  refine if_congr (and_congr Iff.rfl ?_) rfl rfl
  norm_cast

/-- The body's exponentials are the weights of the selected queries' scores. -/
theorem weight_apply (hq : ∀ s d, q (ix3 0 s d) = Q s d) (hk : ∀ s d, k (ix3 0 s d) = K s d)
    (hc : ∀ s d, kc (ix3 0 s d) = K s d - colMean K d) (p : Fin 32) (n : Fin 512) :
    k0_pay194 q k kc (ix2 p n) = weight (kScore Q K p) n := by
  have h7 : ∀ s d, k0_pay191 q (ix2 s d) = Q s d := fun s d => by pointwise [k0_pay191]; exact hq s d
  pointwise [k0_pay194]
  simp only [pick_apply q kc Q K hq hc, h7, hk, ofBits_bot, ofBits_eighth]
  rfl

/-- The sums of the exponentials. -/
theorem total_apply (hq : ∀ s d, q (ix3 0 s d) = Q s d) (hk : ∀ s d, k (ix3 0 s d) = K s d)
    (hc : ∀ s d, kc (ix3 0 s d) = K s d - colMean K d) (p : Fin 32) :
    k0_pay195 q k kc (ix2 p 0) = ∑ n, weight (kScore Q K p) n := by
  pointwise [k0_pay195]
  simp only [weight_apply q k kc Q K hq hk hc]

/-- What the body stores for a head, from the head's blocks of queries, keys, values, centred keys and its mean value. -/
def headPay : FVec Ideal S1x512x64 .f32 :=
  k0_pay1 (k0_pay192 v) (k0_pay193 q kc) (k0_pay194 q k kc) (k0_pay195 q k kc) (Scalar.ofBits .f32 0x3F800000#32) mean

/-- It is `kHead`. -/
theorem headPay_apply (hq : ∀ s d, q (ix3 0 s d) = Q s d) (hk : ∀ s d, k (ix3 0 s d) = K s d) (hv : ∀ s d, v (ix3 0 s d) = V s d)
    (hc : ∀ s d, kc (ix3 0 s d) = K s d - colMean K d) (hm : ∀ d, mean (ix2 0 d) = colMean V d) (s : Fin 512) (d : Fin 64) :
    headPay q k v kc mean (ix3 0 s d) = kHead Q K V s d := by
  have h7 : ∀ s d, k0_pay192 v (ix2 s d) = V s d := fun s d => by pointwise [k0_pay192]; exact hv s d
  unfold headPay
  pointwise [k0_pay1]
  simp only [pick_apply q kc Q K hq hc, weight_apply q k kc Q K hq hk hc, total_apply q k kc Q K hq hk hc, h7, hm]
  rfl

end

/-! ## The sequence in front of the heads -/

/-- The one-hot of three ones times the table of time rows is the sum of three of its rows, for times that are rows of their tables. -/
theorem times_apply (t0 t1 t2 : Vec Ideal S1x512x1 .i32) (tabs : Vec Ideal S48x1024 .bf16) (α : Fin 512 → Fin 24) (β : Fin 512 → Fin 7) (γ : Fin 512 → Fin 12)
    (h0 : ∀ s, t0 (ix3 0 s 0) = BitVec.ofNat 32 (α s).val) (h1 : ∀ s, t1 (ix3 0 s 0) = BitVec.ofNat 32 (β s).val)
    (h2 : ∀ s, t2 (ix3 0 s 0) = BitVec.ofNat 32 (γ s).val) (s : Fin 512) (e : Fin 1024) :
    k0_pay2 t0 t1 t2 tabs (ix2 s e) = (tabs (ix2 ⟨(α s).val, by omega⟩ e) + tabs (ix2 ⟨(β s).val + 24, by omega⟩ e))
      + tabs (ix2 ⟨(γ s).val + 31, by omega⟩ e) := by
  pointwise [k0_pay2]
  have hw : ∀ a b : ℕ, a < 2 ^ 31 → b < 2 ^ 31 → (BitVec.ofNat 32 a = BitVec.ofNat 32 b ↔ a = b) := fun a b ha hb => by
    constructor
    · intro h
      have := congrArg BitVec.toNat h
      rw [BitVec.toNat_ofNat, BitVec.toNat_ofNat] at this
      omega
    · exact fun h => by rw [h]
  have hc : ∀ a b : ℕ, a < 2 ^ 31 → b < 2 ^ 31 →
      IntOp.cmpi .eq (BitVec.ofNat 32 a) (BitVec.ofNat 32 b) = BitVec.ofBool (decide (a = b)) := fun a b ha hb => by
    by_cases h : a = b
    · simp [IntOp.cmpi, h]
    · rw [decide_eq_false h]
      show BitVec.ofBool (BitVec.ofNat 32 a == BitVec.ofNat 32 b) = _
      rw [beq_eq_false_iff_ne.2 (mt (hw a b ha hb).1 h)]
  have ha : ∀ a b : ℕ, IntOp.addi (BitVec.ofNat 32 a) (BitVec.ofNat 32 b) = BitVec.ofNat 32 (a + b) := fun a b =>
    (BitVec.ofNat_add a b).symm
  rw [← oneHot_sum (fun r => tabs (ix2 r e))]
  refine Finset.sum_congr rfl fun r _ => ?_
  rw [h0, h1, h2, ha, ha, hc _ _ (by omega) (by omega), hc _ _ (by omega) (by omega), hc _ _ (by omega) (by omega), or_bits, or_bits,
    bit_float]
  congr 1
  exact if_congr or_assoc rfl rfl

/-- The sequence that the projections read: the convolution of the embedding and elu. -/
theorem seq_apply (y z t : FVec Ideal S512x1024 .f32) (c0 c1 c2 : Vec Ideal S1x1024x1024 .bf16) (bc : Vec Ideal S1x1024 .f32)
    (E : Seq) (hE : ∀ s e, (y (ix2 s e) + z (ix2 s e)) + t (ix2 s e) = E s e)
    (C : Fin 3 → Fin 1024 → Fin 1024 → EReal) (h0 : ∀ i j, c0 (ix3 0 i j) = C 0 i j) (h1 : ∀ i j, c1 (ix3 0 i j) = C 1 i j)
    (h2 : ∀ i j, c2 (ix3 0 i j) = C 2 i j) (s : Fin 512) (e : Fin 1024) :
    k0_pay5 t y z c0 c1 c2 bc (ix2 s e) = elu (conv E C (fun e => bc (ix2 0 e)) s e) := by
  pointwise [k0_pay5]
  simp only [hE, h0, h1, h2]
  rfl

/-- The values' part of the embedding. -/
theorem values_apply (x : Vec Ideal S1x512x32 .bf16) (W : Vec Ideal S32x1024 .bf16) (b : Vec Ideal S1x1024 .f32) (s : Fin 512)
    (e : Fin 1024) : k0_pay3 x W b (ix2 s e) = ∑ d, x (ix3 0 s d) * W (ix2 d e) + b (ix2 0 e) := by
  pointwise [k0_pay3]

/-- The positions' part of the embedding. -/
theorem pos_apply (pos : Vec Ideal S512x1024 .f32) (s : Fin 512) (e : Fin 1024) : k0_pay4 pos (ix2 s e) = pos (ix2 s e) := by
  pointwise [k0_pay4]

/-- A projection of the sequence. -/
theorem lin_apply (x : FVec Ideal S512x1024 .bf16) (W : Vec Ideal S1024x1024 .bf16) (b : Vec Ideal S1x1024 .f32) (X : Seq)
    (hX : ∀ s e, x (ix2 s e) = X s e) (s : Fin 512) (e : Fin 1024) :
    k0_pay7 x W b (ix2 s e) = lin X (fun i j => W (ix2 i j)) (fun e => b (ix2 0 e)) s e := by
  pointwise [k0_pay7]
  simp only [hX]
  rfl

end Cert.KernelIdeal.Pay

end
-- ==== Proof.Slabs.lean ====
/- The slabs of the scratch buffers: a head's 64 columns of a sequence as the body stores them, read at an index, and a load of a
   head's slab out of a buffer that holds all of them. -/
module

public import proofs.«01_k».proof.Proof.Gen.KernelIdeal.Frame
public import proofs.«01_k».proof.Proof.Pay

@[expose] public section

set_option maxRecDepth 16384

noncomputable section

namespace Cert.KernelIdeal.Slabs

open Cert.KernelIdeal Cert.KernelIdeal.Gen Cert.KernelIdeal.Pay Cert.Sparse Idealize.ShloMosaic

variable [Facts]

/-- A piece that holds the values of `G` where it lies. -/
def Agrees1 {s : Shape} {e : EltTy} (G : s.Idx → Elt Ideal e) (p : View.Piece (Elt Ideal) s e) : Prop := ∀ x, p.2 x = G (p.1.emb x)

/-- Pieces that all hold the values of `G`. -/
def Agrees {s : Shape} {e : EltTy} (G : s.Idx → Elt Ideal e) (L : List (View.Piece (Elt Ideal) s e)) : Prop := ∀ p ∈ L, Agrees1 G p

/-- No pieces agree with any contents. -/
theorem agrees_nil {s : Shape} {e : EltTy} (G : s.Idx → Elt Ideal e) : Agrees G [] := fun _ h => nomatch h

/-- Pieces agree with contents if the first and the others do. -/
theorem agrees_cons {s : Shape} {e : EltTy} {G : s.Idx → Elt Ideal e} {p : View.Piece (Elt Ideal) s e} {L : List (View.Piece (Elt Ideal) s e)}
    (h : Agrees1 G p) (hL : Agrees G L) : Agrees G (p :: L) := fun p' hp => by
  rcases List.mem_cons.mp hp with rfl | hp
  · exact h
  · exact hL p' hp

/-- The 64 columns of a head lie in the matrix. -/
theorem slices (j : ℕ) (hj : j < 16) : S512x1024.Slices ![0, 64 * j] S512x64 :=
  ⟨rfl, fun a => by fin_cases a <;> simp <;> omega⟩

/-- A matrix as a sequence of rows. -/
abbrev seq (X : FVec Ideal S512x1024 .f32) : Seq := fun s e => X (ix2 s e)

/-- The heads' slabs of a matrix. -/
def slabs (X : FVec Ideal S512x1024 .f32) : S16x512x64.Idx → Elt Ideal .bf16 := fun y => cols (y 0) (seq X) (y 1) (y 2)

/-- The heads' slabs of a matrix with the mean of every column taken off. -/
def centred (X : FVec Ideal S512x1024 .f32) : S16x512x64.Idx → Elt Ideal .bf16 := fun y =>
  cols (y 0) (seq X) (y 1) (y 2) - colMean (cols (y 0) (seq X)) (y 2)

/-- The heads' column means of a matrix. -/
def means (X : FVec Ideal S512x1024 .f32) : S16x64.Idx → Elt Ideal .f32 := fun y => colMean (cols (y 0) (seq X)) (y 1)

section
variable (X : FVec Ideal S512x1024 .f32) (j o : ℕ) (h : S512x1024.Slices ![0, o] S512x64)

/-- A head's slab as the body computes it. -/
def slabPay : FVec Ideal S1x512x64 .bf16 :=
  shapeCast S1x512x64 (truncf .bf16 (extractStridedSlice S512x64 ![0, o] X h) bitsLt_bf16_f32) shapeCasts_S512x64_S1x512x64

/-- A head's column means as the body computes them. -/
def meanPay : FVec Ideal S1x64 .f32 :=
  divf (shapeCast S1x64 (multiReduction .add [0] S64 (extractStridedSlice S512x64 ![0, o] X h) (0#32) reduces_S512x64_S64 (.inl rfl) rfl)
    shapeCasts_S64_S1x64) (broadcast S1x64 (Scalar.ofBits .f32 0x44000000#32))

/-- A head's column means as the body stores them. -/
def meanCast : FVec Ideal S1x64 .f32 := shapeCast S1x64 (meanPay X o h) shapeCasts_S1x64_S1x64

/-- A head's centred slab as the body computes it. -/
def centredPay : FVec Ideal S1x512x64 .bf16 :=
  shapeCast S1x512x64 (truncf .bf16 (subf (extractStridedSlice S512x64 ![0, o] X h) (broadcastTo S512x64 (meanPay X o h) broadcasts_S1x64_S512x64))
    bitsLt_bf16_f32) shapeCasts_S512x64_S1x512x64

/-- A head's rows stored agree with the heads' rows. -/
theorem slab_agrees (hj : j < 16) (inb : ∀ a, (![j, 0, 0] : Fin 3 → ℕ) a + S1x512x64.size a ≤ S16x512x64.size a) :
    Agrees1 (slabs X) ⟨Rect.unit (s := S16x512x64) ![j, 0, 0] S1x512x64.size inb, slabPay X (64 * j) (slices j hj)⟩ := by
  intro x
  obtain ⟨a, s, d, rfl⟩ : ∃ a s d, x = ix3 a s d := ⟨x 0, x 1, x 2, by funext i; fin_cases i <;> rfl⟩
  obtain rfl : a = 0 := Subsingleton.elim _ _
  have e : (Rect.unit (s := S16x512x64) ![j, 0, 0] S1x512x64.size inb).emb (ix3 0 s d) = ix3 (⟨j, hj⟩ : Fin 16) s d := by
    funext i; fin_cases i <;> refine Fin.ext ?_ <;> simp
  show slabPay X (64 * j) (slices j hj) (ix3 0 s d) = slabs X _
  rw [e]
  pointwise [slabPay]
  rfl

/-- A head's mean row stored agrees with the means. -/
theorem mean_agrees (hj : j < 16) (inb : ∀ a, (![j, 0] : Fin 2 → ℕ) a + S1x64.size a ≤ S16x64.size a) :
    Agrees1 (means X) ⟨Rect.unit (s := S16x64) ![j, 0] S1x64.size inb, meanCast X (64 * j) (slices j hj)⟩ := by
  intro x
  obtain ⟨a, d, rfl⟩ : ∃ a d, x = ix2 a d := ⟨x 0, x 1, by funext i; fin_cases i <;> rfl⟩
  obtain rfl : a = 0 := Subsingleton.elim _ _
  have e : (Rect.unit (s := S16x64) ![j, 0] S1x64.size inb).emb (ix2 0 d) = ix2 (⟨j, hj⟩ : Fin 16) d := by
    funext i; fin_cases i <;> refine Fin.ext ?_ <;> simp
  show meanCast X (64 * j) (slices j hj) (ix2 0 d) = means X _
  rw [e]
  pointwise [meanCast, meanPay]
  simp only [ofBits_512]
  rfl

/-- A head's centred keys stored agree with the centred keys. -/
theorem centred_agrees (hj : j < 16) (inb : ∀ a, (![j, 0, 0] : Fin 3 → ℕ) a + S1x512x64.size a ≤ S16x512x64.size a) :
    Agrees1 (centred X) ⟨Rect.unit (s := S16x512x64) ![j, 0, 0] S1x512x64.size inb, centredPay X (64 * j) (slices j hj)⟩ := by
  intro x
  obtain ⟨a, s, d, rfl⟩ : ∃ a s d, x = ix3 a s d := ⟨x 0, x 1, x 2, by funext i; fin_cases i <;> rfl⟩
  obtain rfl : a = 0 := Subsingleton.elim _ _
  have e : (Rect.unit (s := S16x512x64) ![j, 0, 0] S1x512x64.size inb).emb (ix3 0 s d) = ix3 (⟨j, hj⟩ : Fin 16) s d := by
    funext i; fin_cases i <;> refine Fin.ext ?_ <;> simp
  show centredPay X (64 * j) (slices j hj) (ix3 0 s d) = centred X _
  rw [e]
  pointwise [centredPay, meanPay]
  simp only [ofBits_512]
  rfl

end

/-- A load of a head's slab out of a buffer whose pieces hold the values of `G` reads `G`. -/
theorem load_slab (v : View sig .tc .vmem S16x512x64 .bf16) {G : S16x512x64.Idx → Elt Ideal .bf16} {L : List (View.Piece (Elt Ideal) S16x512x64 .bf16)}
    (hG : Agrees G L) (hc : View.Piece.tiledL L S1x512x64.size = true) (j : Fin 16) (off : Fin 3 → ℕ) (hoff : off = ![j.val, 0, 0]) (inb) (s : Fin 512) (d : Fin 64) :
    View.readAt (Elt Ideal) v (Rect.unit (s := S16x512x64) off S1x512x64.size inb).toLoadRect (v.writes (Elt Ideal) v.junk L) (ix3 0 s d) = G (ix3 j s d) := by
  subst hoff
  rw [View.readAt_apply, View.read_writes_apply_of_pieces v _ G L hG _ (View.cover_of_tiledL L _ hc _)]
  congr 1
  funext i; fin_cases i <;> refine Fin.ext ?_ <;> simp

/-- A load of a head's means out of a buffer whose pieces hold the values of `G` reads `G`. -/
theorem load_mean (v : View sig .tc .vmem S16x64 .f32) {G : S16x64.Idx → Elt Ideal .f32} {L : List (View.Piece (Elt Ideal) S16x64 .f32)}
    (hG : Agrees G L) (hc : View.Piece.tiledL L S1x64.size = true) (j : Fin 16) (off : Fin 2 → ℕ) (hoff : off = ![j.val, 0]) (inb) (d : Fin 64) :
    View.readAt (Elt Ideal) v (Rect.unit (s := S16x64) off S1x64.size inb).toLoadRect (v.writes (Elt Ideal) v.junk L) (ix2 0 d) = G (ix2 j d) := by
  subst hoff
  rw [View.readAt_apply, View.read_writes_apply_of_pieces v _ G L hG _ (View.cover_of_tiledL L _ hc _)]
  congr 1
  funext i; fin_cases i <;> refine Fin.ext ?_ <;> simp

/-- Every head's result, the heads side by side. -/
def heads (X Y Z : FVec Ideal S512x1024 .f32) : S1x512x1024.Idx → Elt Ideal .f32 := fun y =>
  kHead (cols ⟨(y 2).val / 64, by have : (y 2).val < 1024 := (y 2).isLt; omega⟩ (seq X)) (cols ⟨(y 2).val / 64, by have : (y 2).val < 1024 := (y 2).isLt; omega⟩ (seq Y))
    (cols ⟨(y 2).val / 64, by have : (y 2).val < 1024 := (y 2).isLt; omega⟩ (seq Z)) (y 1) ⟨(y 2).val % 64, by omega⟩

/-- A head's part of the block holds the head's result if its loads hold the head's slabs. -/
theorem heads_agrees (X Y Z : FVec Ideal S512x1024 .f32) (q k v kc : Vec Ideal S1x512x64 .bf16) (mean : Vec Ideal S1x64 .f32) (j : ℕ) (hj : j < 16)
    (inb : ∀ a, (![0, 0, 64 * j] : Fin 3 → ℕ) a + S1x512x64.size a ≤ S1x512x1024.size a)
    (hq : ∀ s d, q (ix3 0 s d) = slabs X (ix3 (⟨j, hj⟩ : Fin 16) s d)) (hk : ∀ s d, k (ix3 0 s d) = slabs Y (ix3 (⟨j, hj⟩ : Fin 16) s d))
    (hv : ∀ s d, v (ix3 0 s d) = slabs Z (ix3 (⟨j, hj⟩ : Fin 16) s d)) (hc : ∀ s d, kc (ix3 0 s d) = centred Y (ix3 (⟨j, hj⟩ : Fin 16) s d))
    (hm : ∀ d, mean (ix2 0 d) = means Z (ix2 (⟨j, hj⟩ : Fin 16) d)) :
    Agrees1 (heads X Y Z) ⟨Rect.unit (s := S1x512x1024) ![0, 0, 64 * j] S1x512x64.size inb, headPay q k v kc mean⟩ := by
  intro x
  obtain ⟨a, s, d, rfl⟩ : ∃ a s d, x = ix3 a s d := ⟨x 0, x 1, x 2, by funext i; fin_cases i <;> rfl⟩
  obtain rfl : a = 0 := Subsingleton.elim _ _
  have hd : d.val < 64 := d.isLt
  have e : (Rect.unit (s := S1x512x1024) ![0, 0, 64 * j] S1x512x64.size inb).emb (ix3 0 s d) = ix3 (0 : Fin 1) s (⟨64 * j + d.val, by omega⟩ : Fin 1024) := by
    funext i; fin_cases i <;> refine Fin.ext ?_ <;> simp
  show headPay q k v kc mean (ix3 0 s d) = heads X Y Z _
  rw [e]
  rw [headPay_apply q k v kc mean _ _ _ hq hk hv hc hm]
  have e1 : (⟨(64 * j + d.val) / 64, by omega⟩ : Fin 16) = ⟨j, hj⟩ := Fin.ext (by show (64 * j + d.val) / 64 = j; omega)
  have e2 : (⟨(64 * j + d.val) % 64, by omega⟩ : Fin 64) = d := Fin.ext (by show (64 * j + d.val) % 64 = d.val; omega)
  show _ = kHead (cols ⟨(64 * j + d.val) / 64, _⟩ (seq X)) (cols ⟨(64 * j + d.val) / 64, _⟩ (seq Y)) (cols ⟨(64 * j + d.val) / 64, _⟩ (seq Z)) s ⟨(64 * j + d.val) % 64, _⟩
  rw [e1, e2]
  rfl

end Cert.KernelIdeal.Slabs

end
-- ==== Proof.KernelRun.lean ====
/- One grid step of the kernel: the scratch buffers hold every head's slabs of the queries, keys and values, and the block that the
   step stores holds every head's result. -/
module

public import proofs.«01_k».proof.Proof.Slabs

@[expose] public section

set_option maxRecDepth 16384

noncomputable section

namespace Cert.KernelIdeal.Run

open Cert.KernelIdeal Cert.KernelIdeal.Gen Cert.KernelIdeal.Pay Cert.KernelIdeal.Slabs Cert.Sparse Idealize.ShloMosaic Idealize.ShloMosaic.TcCoe Idealize.ShloMosaic.Tactic

variable (c : Dev nD) (i : grid0.Coords) (arg2 : Memref sig .tc .vmem S1x512x32 .bf16) (harg2 : arg2.IsWhole) (arg3 : Memref sig .tc .vmem S1x512x3 .i32) (harg3 : arg3.IsWhole) (arg4 : Memref sig .tc .vmem S512x1024 .f32) (harg4 : arg4.IsWhole) (arg5 : Memref sig .tc .vmem S32x1024 .bf16) (harg5 : arg5.IsWhole) (arg6 : Memref sig .tc .vmem S48x1024 .bf16) (harg6 : arg6.IsWhole) (arg7 : Memref sig .tc .vmem S3x1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S16x512x64 .bf16) (harg17 : arg17.IsWhole) (arg18 : Memref sig .tc .vmem S16x512x64 .bf16) (harg18 : arg18.IsWhole) (arg19 : Memref sig .tc .vmem S16x512x64 .bf16) (harg19 : arg19.IsWhole) (arg20 : Memref sig .tc .vmem S16x64 .f32) (harg20 : arg20.IsWhole) (arg21 : Memref sig .tc .vmem S16x512x64 .bf16) (harg21 : arg21.IsWhole) (hc0 : cond0_0 i)
    (x0 : Vec Ideal S1x512x32 .bf16) (x1 : Vec Ideal S1x512x3 .i32) (x2 : Vec Ideal S512x1024 .f32) (x3 : Vec Ideal S32x1024 .bf16) (x4 : Vec Ideal S48x1024 .bf16) (x5 : Vec Ideal S3x1024x1024 .bf16) (x6 : Vec Ideal S1024x1024 .bf16) (x7 : Vec Ideal S1024x1024 .bf16) (x8 : Vec Ideal S1024x1024 .bf16) (x9 : Vec Ideal S1x1024 .f32) (x10 : Vec Ideal S1x1024 .f32) (x11 : Vec Ideal S1x1024 .f32) (x12 : Vec Ideal S1x1024 .f32) (x13 : Vec Ideal S1x1024 .f32)

/-- The scratch buffer of the queries. -/
theorem agrees_HS0 : Agrees (slabs (kernelRun0_A.sl.r_4 (F := Ideal) c arg2 harg2 arg3 harg3 arg4 harg4 arg5 harg5 arg6 harg6 arg7 harg7 arg8 harg8 arg11 harg11 arg12 harg12 arg13 harg13 x0 x1 x2 x3 x4 x5 x6 x9 x10 x11)) (kernelRun0_A.sl.HS0_16 (F := Ideal) c arg2 harg2 arg3 harg3 arg4 harg4 arg5 harg5 arg6 harg6 arg7 harg7 arg8 harg8 arg11 harg11 arg12 harg12 arg13 harg13 x0 x1 x2 x3 x4 x5 x6 x9 x10 x11) := by
  unfold kernelRun0_A.sl.HS0_16
  repeat' first | exact agrees_nil _ | refine agrees_cons (slab_agrees _ _ (by decide) _) ?_

/-- The scratch buffer of the keys. -/
theorem agrees_HS1 : Agrees (slabs (kernelRun0_A.sl.r_5 (F := Ideal) c arg2 harg2 arg3 harg3 arg4 harg4 arg5 harg5 arg6 harg6 arg7 harg7 arg9 harg9 arg11 harg11 arg12 harg12 arg14 harg14 x0 x1 x2 x3 x4 x5 x7 x9 x10 x12)) (kernelRun0_A.sl.HS1_16 (F := Ideal) c arg2 harg2 arg3 harg3 arg4 harg4 arg5 harg5 arg6 harg6 arg7 harg7 arg9 harg9 arg11 harg11 arg12 harg12 arg14 harg14 x0 x1 x2 x3 x4 x5 x7 x9 x10 x12) := by
  unfold kernelRun0_A.sl.HS1_16
  repeat' first | exact agrees_nil _ | refine agrees_cons (slab_agrees _ _ (by decide) _) ?_

/-- The scratch buffer of the values. -/
theorem agrees_HS2 : Agrees (slabs (kernelRun0_A.sl.r_6 (F := Ideal) c arg2 harg2 arg3 harg3 arg4 harg4 arg5 harg5 arg6 harg6 arg7 harg7 arg10 harg10 arg11 harg11 arg12 harg12 arg15 harg15 x0 x1 x2 x3 x4 x5 x8 x9 x10 x13)) (kernelRun0_A.sl.HS2_16 (F := Ideal) c arg2 harg2 arg3 harg3 arg4 harg4 arg5 harg5 arg6 harg6 arg7 harg7 arg10 harg10 arg11 harg11 arg12 harg12 arg15 harg15 x0 x1 x2 x3 x4 x5 x8 x9 x10 x13) := by
  unfold kernelRun0_A.sl.HS2_16
  repeat' first | exact agrees_nil _ | refine agrees_cons (slab_agrees _ _ (by decide) _) ?_

/-- The scratch buffer of the means of the values. -/
theorem agrees_HS3 : Agrees (means (kernelRun0_A.sl.r_6 (F := Ideal) c arg2 harg2 arg3 harg3 arg4 harg4 arg5 harg5 arg6 harg6 arg7 harg7 arg10 harg10 arg11 harg11 arg12 harg12 arg15 harg15 x0 x1 x2 x3 x4 x5 x8 x9 x10 x13)) (kernelRun0_A.sl.HS3_16 (F := Ideal) c arg2 harg2 arg3 harg3 arg4 harg4 arg5 harg5 arg6 harg6 arg7 harg7 arg10 harg10 arg11 harg11 arg12 harg12 arg15 harg15 x0 x1 x2 x3 x4 x5 x8 x9 x10 x13) := by
  unfold kernelRun0_A.sl.HS3_16
  repeat' first | exact agrees_nil _ | refine agrees_cons (mean_agrees _ _ (by decide) _) ?_

/-- The scratch buffer of the centred keys. -/
theorem agrees_HS4 : Agrees (centred (kernelRun0_A.sl.r_5 (F := Ideal) c arg2 harg2 arg3 harg3 arg4 harg4 arg5 harg5 arg6 harg6 arg7 harg7 arg9 harg9 arg11 harg11 arg12 harg12 arg14 harg14 x0 x1 x2 x3 x4 x5 x7 x9 x10 x12)) (kernelRun0_A.sl.HS4_16 (F := Ideal) c arg2 harg2 arg3 harg3 arg4 harg4 arg5 harg5 arg6 harg6 arg7 harg7 arg9 harg9 arg11 harg11 arg12 harg12 arg14 harg14 x0 x1 x2 x3 x4 x5 x7 x9 x10 x12) := by
  unfold kernelRun0_A.sl.HS4_16
  repeat' first | exact agrees_nil _ | refine agrees_cons (centred_agrees _ _ (by decide) _) ?_

/-- The head's index, computed as a word, is the head's number. -/
theorem word_of (j : ℕ) (hj : j < 16) : BitVec.toNat (Scalar.indexCast (Scalar.addi (Scalar.muli 16#32 0#32) (BitVec.ofNat 32 j))) = j := by
  interval_cases j <;> rfl

/-- The offset of a head's rows. -/
theorem off1_eq (j : ℕ) (hj : j < 16) : k0_off1 i (BitVec.ofNat 32 j) = ![j, 0, 0] := by
  have h : (i 1).val = 0 := by have : (i 1).val < 1 := (i 1).isLt; omega
  unfold k0_off1
  simp [h]
  exact word_of j hj

/-- The offset of a head's mean row. -/
theorem off2_eq (j : ℕ) (hj : j < 16) : k0_off2 i (BitVec.ofNat 32 j) = ![j, 0] := by
  have h : (i 1).val = 0 := by have : (i 1).val < 1 := (i 1).isLt; omega
  unfold k0_off2
  simp [h]
  exact word_of j hj

/-- A head's rows lie in the array. -/
theorem inb1 (j : ℕ) (hj : j < 16) (a : Fin 3) : k0_off1 i (BitVec.ofNat 32 j) a + S1x512x64.size a ≤ S16x512x64.size a := by
  rw [off1_eq i j hj]
  fin_cases a <;> simp <;> omega

/-- A head's mean row lies in the array. -/
theorem inb2 (j : ℕ) (hj : j < 16) (a : Fin 2) : k0_off2 i (BitVec.ofNat 32 j) a + S1x64.size a ≤ S16x64.size a := by
  rw [off2_eq i j hj]
  fin_cases a <;> simp <;> omega

/-- A head's part of the block: the body's result from the loads of the head's slabs. -/
theorem head_agrees (j : ℕ) (hj : j < 16) (inb : ∀ a, (![0, 0, 64 * j] : Fin 3 → ℕ) a + S1x512x64.size a ≤ S1x512x1024.size a) :
    Agrees1 (heads (kernelRun0_A.sl.r_4 (F := Ideal) c arg2 harg2 arg3 harg3 arg4 harg4 arg5 harg5 arg6 harg6 arg7 harg7 arg8 harg8 arg11 harg11 arg12 harg12 arg13 harg13 x0 x1 x2 x3 x4 x5 x6 x9 x10 x11) (kernelRun0_A.sl.r_5 (F := Ideal) c arg2 harg2 arg3 harg3 arg4 harg4 arg5 harg5 arg6 harg6 arg7 harg7 arg9 harg9 arg11 harg11 arg12 harg12 arg14 harg14 x0 x1 x2 x3 x4 x5 x7 x9 x10 x12) (kernelRun0_A.sl.r_6 (F := Ideal) c arg2 harg2 arg3 harg3 arg4 harg4 arg5 harg5 arg6 harg6 arg7 harg7 arg10 harg10 arg11 harg11 arg12 harg12 arg15 harg15 x0 x1 x2 x3 x4 x5 x8 x9 x10 x13)) ⟨Rect.unit (s := S1x512x1024) ![0, 0, 64 * j] S1x512x64.size inb, (headPay (View.readAt (Elt Ideal) arg17.view (Rect.unit (s := S16x512x64) (k0_off1 i (BitVec.ofNat 32 j)) S1x512x64.size (inb1 i j hj)).toLoadRect (arg17.view.writes (Elt Ideal) arg17.view.junk (kernelRun0_A.sl.HS0_16 (F := Ideal) c arg2 harg2 arg3 harg3 arg4 harg4 arg5 harg5 arg6 harg6 arg7 harg7 arg8 harg8 arg11 harg11 arg12 harg12 arg13 harg13 x0 x1 x2 x3 x4 x5 x6 x9 x10 x11))) (View.readAt (Elt Ideal) arg18.view (Rect.unit (s := S16x512x64) (k0_off1 i (BitVec.ofNat 32 j)) S1x512x64.size (inb1 i j hj)).toLoadRect (arg18.view.writes (Elt Ideal) arg18.view.junk (kernelRun0_A.sl.HS1_16 (F := Ideal) c arg2 harg2 arg3 harg3 arg4 harg4 arg5 harg5 arg6 harg6 arg7 harg7 arg9 harg9 arg11 harg11 arg12 harg12 arg14 harg14 x0 x1 x2 x3 x4 x5 x7 x9 x10 x12))) (View.readAt (Elt Ideal) arg19.view (Rect.unit (s := S16x512x64) (k0_off1 i (BitVec.ofNat 32 j)) S1x512x64.size (inb1 i j hj)).toLoadRect (arg19.view.writes (Elt Ideal) arg19.view.junk (kernelRun0_A.sl.HS2_16 (F := Ideal) c arg2 harg2 arg3 harg3 arg4 harg4 arg5 harg5 arg6 harg6 arg7 harg7 arg10 harg10 arg11 harg11 arg12 harg12 arg15 harg15 x0 x1 x2 x3 x4 x5 x8 x9 x10 x13))) (View.readAt (Elt Ideal) arg21.view (Rect.unit (s := S16x512x64) (k0_off1 i (BitVec.ofNat 32 j)) S1x512x64.size (inb1 i j hj)).toLoadRect (arg21.view.writes (Elt Ideal) arg21.view.junk (kernelRun0_A.sl.HS4_16 (F := Ideal) c arg2 harg2 arg3 harg3 arg4 harg4 arg5 harg5 arg6 harg6 arg7 harg7 arg9 harg9 arg11 harg11 arg12 harg12 arg14 harg14 x0 x1 x2 x3 x4 x5 x7 x9 x10 x12))) (View.readAt (Elt Ideal) arg20.view (Rect.unit (s := S16x64) (k0_off2 i (BitVec.ofNat 32 j)) S1x64.size (inb2 i j hj)).toLoadRect (arg20.view.writes (Elt Ideal) arg20.view.junk (kernelRun0_A.sl.HS3_16 (F := Ideal) c arg2 harg2 arg3 harg3 arg4 harg4 arg5 harg5 arg6 harg6 arg7 harg7 arg10 harg10 arg11 harg11 arg12 harg12 arg15 harg15 x0 x1 x2 x3 x4 x5 x8 x9 x10 x13))))⟩ :=
  heads_agrees _ _ _ _ _ _ _ _ j hj inb
    (fun s d => load_slab arg17.view (agrees_HS0 c arg2 harg2 arg3 harg3 arg4 harg4 arg5 harg5 arg6 harg6 arg7 harg7 arg8 harg8 arg11 harg11 arg12 harg12 arg13 harg13 x0 x1 x2 x3 x4 x5 x6 x9 x10 x11) (by sl_kernel_rfl) ⟨j, hj⟩ _ (off1_eq i j hj) _ s d)
    (fun s d => load_slab arg18.view (agrees_HS1 c arg2 harg2 arg3 harg3 arg4 harg4 arg5 harg5 arg6 harg6 arg7 harg7 arg9 harg9 arg11 harg11 arg12 harg12 arg14 harg14 x0 x1 x2 x3 x4 x5 x7 x9 x10 x12) (by sl_kernel_rfl) ⟨j, hj⟩ _ (off1_eq i j hj) _ s d)
    (fun s d => load_slab arg19.view (agrees_HS2 c arg2 harg2 arg3 harg3 arg4 harg4 arg5 harg5 arg6 harg6 arg7 harg7 arg10 harg10 arg11 harg11 arg12 harg12 arg15 harg15 x0 x1 x2 x3 x4 x5 x8 x9 x10 x13) (by sl_kernel_rfl) ⟨j, hj⟩ _ (off1_eq i j hj) _ s d)
    (fun s d => load_slab arg21.view (agrees_HS4 c arg2 harg2 arg3 harg3 arg4 harg4 arg5 harg5 arg6 harg6 arg7 harg7 arg9 harg9 arg11 harg11 arg12 harg12 arg14 harg14 x0 x1 x2 x3 x4 x5 x7 x9 x10 x12) (by sl_kernel_rfl) ⟨j, hj⟩ _ (off1_eq i j hj) _ s d)
    (fun d => load_mean arg20.view (agrees_HS3 c arg2 harg2 arg3 harg3 arg4 harg4 arg5 harg5 arg6 harg6 arg7 harg7 arg10 harg10 arg11 harg11 arg12 harg12 arg15 harg15 x0 x1 x2 x3 x4 x5 x8 x9 x10 x13) (by sl_kernel_rfl) ⟨j, hj⟩ _ (off2_eq i j hj) _ d)

set_option maxHeartbeats 4000000 in
/-- Every piece of the block holds its head's result. -/
theorem agrees_14 : Agrees (heads (kernelRun0_A.sl.r_4 (F := Ideal) c arg2 harg2 arg3 harg3 arg4 harg4 arg5 harg5 arg6 harg6 arg7 harg7 arg8 harg8 arg11 harg11 arg12 harg12 arg13 harg13 x0 x1 x2 x3 x4 x5 x6 x9 x10 x11) (kernelRun0_A.sl.r_5 (F := Ideal) c arg2 harg2 arg3 harg3 arg4 harg4 arg5 harg5 arg6 harg6 arg7 harg7 arg9 harg9 arg11 harg11 arg12 harg12 arg14 harg14 x0 x1 x2 x3 x4 x5 x7 x9 x10 x12) (kernelRun0_A.sl.r_6 (F := Ideal) c arg2 harg2 arg3 harg3 arg4 harg4 arg5 harg5 arg6 harg6 arg7 harg7 arg10 harg10 arg11 harg11 arg12 harg12 arg15 harg15 x0 x1 x2 x3 x4 x5 x8 x9 x10 x13)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13).1 := by
  unfold kernelRun0_A
  dsimp only
  repeat' first | exact agrees_nil _ | refine agrees_cons (head_agrees c i arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 arg21 x0 x1 x2 x3 x4 x5 x6 x7 x8 x9 x10 x11 x12 x13 _ (by decide) _) ?_

/-- The block that a grid step stores, at an index. -/
theorem out_apply (s : Fin 512) (e : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 (ix3 0 s e) = heads (kernelRun0_A.sl.r_4 (F := Ideal) c arg2 harg2 arg3 harg3 arg4 harg4 arg5 harg5 arg6 harg6 arg7 harg7 arg8 harg8 arg11 harg11 arg12 harg12 arg13 harg13 x0 x1 x2 x3 x4 x5 x6 x9 x10 x11) (kernelRun0_A.sl.r_5 (F := Ideal) c arg2 harg2 arg3 harg3 arg4 harg4 arg5 harg5 arg6 harg6 arg7 harg7 arg9 harg9 arg11 harg11 arg12 harg12 arg14 harg14 x0 x1 x2 x3 x4 x5 x7 x9 x10 x12) (kernelRun0_A.sl.r_6 (F := Ideal) c arg2 harg2 arg3 harg3 arg4 harg4 arg5 harg5 arg6 harg6 arg7 harg7 arg10 harg10 arg11 harg11 arg12 harg12 arg15 harg15 x0 x1 x2 x3 x4 x5 x8 x9 x10 x13) (ix3 0 s e) :=
  View.read_writes_apply_of_pieces VO0_14 _ _ _ (agrees_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13) _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 _)

end Cert.KernelIdeal.Run

end
-- ==== Proof.Layer.lean ====
/- The whole layer for one sequence of the batch: its parameters, its queries, keys and values, as functions over the extended reals. -/
module

public import proofs.«01_k».proof.Proof.Model

@[expose] public section

noncomputable section

namespace Cert.Sparse

open Idealize.ShloMosaic

/-- How many rows the hours', the weekdays' and the months' table have. -/
def tableRows : Fin 3 → ℕ
  | 0 => 24
  | 1 => 7
  | 2 => 12

/-- An hour, a weekday and a month, each a row of its table. -/
abbrev Times := (k : Fin 3) → Fin (tableRows k)

/-- The parameters of the layer, each as a function of its indices. -/
structure Params where
  valW : Fin 32 → Fin 1024 → EReal
  valB : Fin 1024 → EReal
  hour : Fin 24 → Fin 1024 → EReal
  week : Fin 7 → Fin 1024 → EReal
  month : Fin 12 → Fin 1024 → EReal
  pos : Seq
  convW : Fin 3 → Fin 1024 → Fin 1024 → EReal
  convB : Fin 1024 → EReal
  qW : Fin 1024 → Fin 1024 → EReal
  qB : Fin 1024 → EReal
  kW : Fin 1024 → Fin 1024 → EReal
  kB : Fin 1024 → EReal
  vW : Fin 1024 → Fin 1024 → EReal
  vB : Fin 1024 → EReal

namespace Params

variable (p : Params) (x : Fin 512 → Fin 32 → EReal) (τ : Fin 512 → Times)

/-- The rows that the hour, the weekday and the month of every step choose, added. -/
def times : Seq := fun s e =>
  (p.hour (τ s 0) e + p.week (τ s 1) e) + p.month (τ s 2) e

/-- The embedding. -/
def emb : Seq := embed x p.valW p.valB p.pos (p.times τ)

/-- What the projections read: elu of the convolution of the embedding. -/
def hidden : Seq := fun s e => elu (conv (p.emb x τ) p.convW p.convB s e)

/-- The queries. -/
def q : Seq := lin (p.hidden x τ) p.qW p.qB

/-- The keys. -/
def k : Seq := lin (p.hidden x τ) p.kW p.kB

/-- The values. -/
def v : Seq := lin (p.hidden x τ) p.vW p.vB

/-- The head that column `e` belongs to. -/
def headOf (e : Fin 1024) : Fin 16 := ⟨e.val / 64, by omega⟩

/-- The place of column `e` in its head. -/
def colOf (e : Fin 1024) : Fin 64 := ⟨e.val % 64, by omega⟩

/-- The kernel's result. -/
def kernel : Seq := fun s e =>
  kHead (cols (headOf e) (p.q x τ)) (cols (headOf e) (p.k x τ)) (cols (headOf e) (p.v x τ)) s (colOf e)

end Params

end Cert.Sparse

end
-- ==== Proof.Step.lean ====
/- One grid step of the kernel: the block it stores is the layer's result for the sequence and the parameters that its input blocks hold. -/
module

public import proofs.«01_k».proof.Proof.KernelRun
public import proofs.«01_k».proof.Proof.Layer

@[expose] public section

set_option maxRecDepth 16384

noncomputable section

namespace Cert.KernelIdeal.Step

open Cert.KernelIdeal Cert.KernelIdeal.Gen Cert.KernelIdeal.Pay Cert.KernelIdeal.Slabs Cert.Sparse Idealize.ShloMosaic Idealize.ShloMosaic.TcCoe Idealize.ShloMosaic.Tactic

/-- A load out of a buffer that holds `x` reads `x` where the rectangle lies. -/
theorem load_at {s : Shape} {e : EltTy} {M : Memref sig .tc .vmem s e} (h : M.IsWhole) (x : Vec Ideal s e) (off size : Fin s.rank → ℕ) (inb)
    (i : (Rect.unit off size inb).toLoadRect.shape.Idx) (j : s.Idx) (hj : ∀ a, (j a).val = off a + (i a).val) :
    View.readAt (Elt Ideal) M.view (Rect.unit off size inb).toLoadRect (h.unread x) i = x j := by
  rw [View.readAt_apply, h.read_unread]
  congr 1
  funext a
  refine Fin.ext ?_
  rw [hj]
  show off a + 1 * (i a).val = _
  rw [one_mul]

/-- The input blocks of a grid step hold the sequence `X`, the times `τ` and the parameters `p`. -/
structure Holds (p : Params) (X : Fin 512 → Fin 32 → EReal) (τ : Fin 512 → Times)
    (x0 : Vec Ideal S1x512x32 .bf16) (x1 : Vec Ideal S1x512x3 .i32) (x2 : Vec Ideal S512x1024 .f32) (x3 : Vec Ideal S32x1024 .bf16) (x4 : Vec Ideal S48x1024 .bf16) (x5 : Vec Ideal S3x1024x1024 .bf16) (x6 : Vec Ideal S1024x1024 .bf16) (x7 : Vec Ideal S1024x1024 .bf16) (x8 : Vec Ideal S1024x1024 .bf16) (x9 : Vec Ideal S1x1024 .f32) (x10 : Vec Ideal S1x1024 .f32) (x11 : Vec Ideal S1x1024 .f32) (x12 : Vec Ideal S1x1024 .f32) (x13 : Vec Ideal S1x1024 .f32) : Prop where
  h0 : ∀ s d, x0 (ix3 0 s d) = X s d
  h1 : ∀ s k, x1 (ix3 0 s k) = BitVec.ofNat 32 (τ s k).val
  h2 : ∀ s e, x2 (ix2 s e) = p.pos s e
  h3 : ∀ d e, x3 (ix2 d e) = p.valW d e
  h4a : ∀ (r : Fin 24) e, x4 (ix2 (⟨r.val, by omega⟩ : Fin 48) e) = p.hour r e
  h4b : ∀ (r : Fin 7) e, x4 (ix2 (⟨r.val + 24, by omega⟩ : Fin 48) e) = p.week r e
  h4c : ∀ (r : Fin 12) e, x4 (ix2 (⟨r.val + 31, by omega⟩ : Fin 48) e) = p.month r e
  h5 : ∀ k i j, x5 (ix3 k i j) = p.convW k i j
  h6 : ∀ i j, x6 (ix2 i j) = p.qW i j
  h7 : ∀ i j, x7 (ix2 i j) = p.kW i j
  h8 : ∀ i j, x8 (ix2 i j) = p.vW i j
  h9 : ∀ e, x9 (ix2 0 e) = p.valB e
  h10 : ∀ e, x10 (ix2 0 e) = p.convB e
  h11 : ∀ e, x11 (ix2 0 e) = p.qB e
  h12 : ∀ e, x12 (ix2 0 e) = p.kB e
  h13 : ∀ e, x13 (ix2 0 e) = p.vB e

variable (c : Dev nD) (i : grid0.Coords) (arg2 : Memref sig .tc .vmem S1x512x32 .bf16) (harg2 : arg2.IsWhole) (arg3 : Memref sig .tc .vmem S1x512x3 .i32) (harg3 : arg3.IsWhole) (arg4 : Memref sig .tc .vmem S512x1024 .f32) (harg4 : arg4.IsWhole) (arg5 : Memref sig .tc .vmem S32x1024 .bf16) (harg5 : arg5.IsWhole) (arg6 : Memref sig .tc .vmem S48x1024 .bf16) (harg6 : arg6.IsWhole) (arg7 : Memref sig .tc .vmem S3x1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S16x512x64 .bf16) (harg17 : arg17.IsWhole) (arg18 : Memref sig .tc .vmem S16x512x64 .bf16) (harg18 : arg18.IsWhole) (arg19 : Memref sig .tc .vmem S16x512x64 .bf16) (harg19 : arg19.IsWhole) (arg20 : Memref sig .tc .vmem S16x64 .f32) (harg20 : arg20.IsWhole) (arg21 : Memref sig .tc .vmem S16x512x64 .bf16) (harg21 : arg21.IsWhole) (hc0 : cond0_0 i)
    (x0 : Vec Ideal S1x512x32 .bf16) (x1 : Vec Ideal S1x512x3 .i32) (x2 : Vec Ideal S512x1024 .f32) (x3 : Vec Ideal S32x1024 .bf16) (x4 : Vec Ideal S48x1024 .bf16) (x5 : Vec Ideal S3x1024x1024 .bf16) (x6 : Vec Ideal S1024x1024 .bf16) (x7 : Vec Ideal S1024x1024 .bf16) (x8 : Vec Ideal S1024x1024 .bf16) (x9 : Vec Ideal S1x1024 .f32) (x10 : Vec Ideal S1x1024 .f32) (x11 : Vec Ideal S1x1024 .f32) (x12 : Vec Ideal S1x1024 .f32) (x13 : Vec Ideal S1x1024 .f32)
variable (p : Params) (X : Fin 512 → Fin 32 → EReal) (τ : Fin 512 → Times) (H : Holds p X τ x0 x1 x2 x3 x4 x5 x6 x7 x8 x9 x10 x11 x12 x13)

include H

/-- What the projections read. -/
theorem hidden_apply (s : Fin 512) (e : Fin 1024) : (kernelRun0_A.sl.r_3 (F := Ideal) c arg2 harg2 arg3 harg3 arg4 harg4 arg5 harg5 arg6 harg6 arg7 harg7 arg11 harg11 arg12 harg12 x0 x1 x2 x3 x4 x5 x9 x10) (ix2 s e) = p.hidden X τ s e := by
  refine (seq_apply _ _ _ _ _ _ _ (p.emb X τ) (fun s e => ?_) p.convW (fun i j => ?_) (fun i j => ?_) (fun i j => ?_) s e).trans ?_
  · unfold kernelRun0_A.sl.r kernelRun0_A.sl.r_1 kernelRun0_A.sl.r_2
    rw [values_apply, pos_apply, times_apply _ _ _ _ (fun s => τ s 0) (fun s => τ s 1) (fun s => τ s 2)]
    · refine congrArg₂ (· + ·) (congrArg₂ (· + ·) (congrArg₂ (· + ·) (Finset.sum_congr rfl fun d _ => congrArg₂ (· * ·) ?_ ?_) ?_) ?_)
        (congrArg₂ (· + ·) (congrArg₂ (· + ·) ?_ ?_) ?_)
      · exact (load_at harg2 x0 _ _ _ (ix3 0 s d) (ix3 0 s d) (fun a => by fin_cases a <;> simp)).trans (H.h0 s d)
      · exact (load_at harg5 x3 _ _ _ (ix2 d e) (ix2 d e) (fun a => by fin_cases a <;> simp)).trans (H.h3 d e)
      · exact (load_at harg11 x9 _ _ _ (ix2 0 e) (ix2 0 e) (fun a => by fin_cases a <;> simp)).trans (H.h9 e)
      · exact (load_at harg4 x2 _ _ _ (ix2 s e) (ix2 s e) (fun a => by fin_cases a <;> simp)).trans (H.h2 s e)
      · exact (load_at harg6 x4 _ _ _ (ix2 _ e) (ix2 _ e) (fun a => by fin_cases a <;> simp)).trans (H.h4a (τ s 0) e)
      · exact (load_at harg6 x4 _ _ _ (ix2 _ e) (ix2 _ e) (fun a => by fin_cases a <;> simp)).trans (H.h4b (τ s 1) e)
      · exact (load_at harg6 x4 _ _ _ (ix2 _ e) (ix2 _ e) (fun a => by fin_cases a <;> simp)).trans (H.h4c (τ s 2) e)
    · exact fun s => (load_at harg3 x1 _ _ _ (ix3 0 s 0) (ix3 0 s 0) (fun a => by fin_cases a <;> simp)).trans (H.h1 s 0)
    · exact fun s => (load_at harg3 x1 _ _ _ (ix3 0 s 0) (ix3 0 s 1) (fun a => by fin_cases a <;> simp)).trans (H.h1 s 1)
    · exact fun s => (load_at harg3 x1 _ _ _ (ix3 0 s 0) (ix3 0 s 2) (fun a => by fin_cases a <;> simp)).trans (H.h1 s 2)
  · exact (load_at harg7 x5 _ _ _ (ix3 0 i j) (ix3 0 i j) (fun a => by fin_cases a <;> simp)).trans (H.h5 0 i j)
  · exact (load_at harg7 x5 _ _ _ (ix3 0 i j) (ix3 1 i j) (fun a => by fin_cases a <;> simp)).trans (H.h5 1 i j)
  · exact (load_at harg7 x5 _ _ _ (ix3 0 i j) (ix3 2 i j) (fun a => by fin_cases a <;> simp)).trans (H.h5 2 i j)
  · refine congrArg elu (congrArg (fun b => conv (p.emb X τ) p.convW b s e) (funext fun e => ?_))
    exact (load_at harg12 x10 _ _ _ (ix2 0 e) (ix2 0 e) (fun a => by fin_cases a <;> simp)).trans (H.h10 e)

/-- The queries of a step. -/
theorem q_apply : seq (kernelRun0_A.sl.r_4 (F := Ideal) c arg2 harg2 arg3 harg3 arg4 harg4 arg5 harg5 arg6 harg6 arg7 harg7 arg8 harg8 arg11 harg11 arg12 harg12 arg13 harg13 x0 x1 x2 x3 x4 x5 x6 x9 x10 x11) = p.q X τ := by
  funext s e
  refine (lin_apply _ _ _ (p.hidden X τ) (hidden_apply c arg2 harg2 arg3 harg3 arg4 harg4 arg5 harg5 arg6 harg6 arg7 harg7 arg11 harg11 arg12 harg12 x0 x1 x2 x3 x4 x5 x6 x7 x8 x9 x10 x11 x12 x13 p X τ H) s e).trans ?_
  refine congrArg₂ (fun W b => lin (p.hidden X τ) W b s e) (funext fun i => funext fun j => ?_) (funext fun j => ?_)
  · exact (load_at harg8 x6 _ _ _ (ix2 i j) (ix2 i j) (fun a => by fin_cases a <;> simp)).trans (H.h6 i j)
  · exact (load_at harg13 x11 _ _ _ (ix2 0 j) (ix2 0 j) (fun a => by fin_cases a <;> simp)).trans (H.h11 j)

/-- The keys of a step. -/
theorem k_apply : seq (kernelRun0_A.sl.r_5 (F := Ideal) c arg2 harg2 arg3 harg3 arg4 harg4 arg5 harg5 arg6 harg6 arg7 harg7 arg9 harg9 arg11 harg11 arg12 harg12 arg14 harg14 x0 x1 x2 x3 x4 x5 x7 x9 x10 x12) = p.k X τ := by
  funext s e
  refine (lin_apply _ _ _ (p.hidden X τ) (hidden_apply c arg2 harg2 arg3 harg3 arg4 harg4 arg5 harg5 arg6 harg6 arg7 harg7 arg11 harg11 arg12 harg12 x0 x1 x2 x3 x4 x5 x6 x7 x8 x9 x10 x11 x12 x13 p X τ H) s e).trans ?_
  refine congrArg₂ (fun W b => lin (p.hidden X τ) W b s e) (funext fun i => funext fun j => ?_) (funext fun j => ?_)
  · exact (load_at harg9 x7 _ _ _ (ix2 i j) (ix2 i j) (fun a => by fin_cases a <;> simp)).trans (H.h7 i j)
  · exact (load_at harg14 x12 _ _ _ (ix2 0 j) (ix2 0 j) (fun a => by fin_cases a <;> simp)).trans (H.h12 j)

/-- The values of a step. -/
theorem v_apply : seq (kernelRun0_A.sl.r_6 (F := Ideal) c arg2 harg2 arg3 harg3 arg4 harg4 arg5 harg5 arg6 harg6 arg7 harg7 arg10 harg10 arg11 harg11 arg12 harg12 arg15 harg15 x0 x1 x2 x3 x4 x5 x8 x9 x10 x13) = p.v X τ := by
  funext s e
  refine (lin_apply _ _ _ (p.hidden X τ) (hidden_apply c arg2 harg2 arg3 harg3 arg4 harg4 arg5 harg5 arg6 harg6 arg7 harg7 arg11 harg11 arg12 harg12 x0 x1 x2 x3 x4 x5 x6 x7 x8 x9 x10 x11 x12 x13 p X τ H) s e).trans ?_
  refine congrArg₂ (fun W b => lin (p.hidden X τ) W b s e) (funext fun i => funext fun j => ?_) (funext fun j => ?_)
  · exact (load_at harg10 x8 _ _ _ (ix2 i j) (ix2 i j) (fun a => by fin_cases a <;> simp)).trans (H.h8 i j)
  · exact (load_at harg15 x13 _ _ _ (ix2 0 j) (ix2 0 j) (fun a => by fin_cases a <;> simp)).trans (H.h13 j)

/-- The block that a grid step stores. -/
theorem out_eq (s : Fin 512) (e : Fin 1024) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 (ix3 0 s e) = p.kernel X τ s e := by
  rw [Run.out_apply]
  unfold heads
  rw [q_apply c arg2 harg2 arg3 harg3 arg4 harg4 arg5 harg5 arg6 harg6 arg7 harg7 arg8 harg8 arg11 harg11 arg12 harg12 arg13 harg13 x0 x1 x2 x3 x4 x5 x6 x7 x8 x9 x10 x11 x12 x13 p X τ H, k_apply c arg2 harg2 arg3 harg3 arg4 harg4 arg5 harg5 arg6 harg6 arg7 harg7 arg9 harg9 arg11 harg11 arg12 harg12 arg14 harg14 x0 x1 x2 x3 x4 x5 x6 x7 x8 x9 x10 x11 x12 x13 p X τ H, v_apply c arg2 harg2 arg3 harg3 arg4 harg4 arg5 harg5 arg6 harg6 arg7 harg7 arg10 harg10 arg11 harg11 arg12 harg12 arg15 harg15 x0 x1 x2 x3 x4 x5 x6 x7 x8 x9 x10 x11 x12 x13 p X τ H]
  rfl

end Cert.KernelIdeal.Step

end
-- ==== Proof.HostPrefix.lean ====
/- The operations in front of the kernel: the arrays that its windows read, as functions of the arguments. -/
module

public import proofs.«01_k».proof.Proof.Gen.KernelIdeal.Frame
public import proofs.«01_k».proof.Proof.Layer
public import Idealize.ShloMosaic.Lib.Pointwise
public import Idealize.ShloMosaic.Lib.Routing.OpsSet
public import Idealize.ShloMosaic.Lib.Routing.OpsPair

@[expose] public section

set_option maxRecDepth 16384

noncomputable section

namespace Cert.KernelIdeal.HostPrefix

open Cert.KernelIdeal Cert.KernelIdeal.Gen Cert.Sparse Idealize.ShloMosaic Idealize.ShloMosaic.Routing Idealize.ShloMosaic.TcCoe Idealize.ShloMosaic.Tactic

/-! ## Rows set in a matrix -/

section
variable {α : Type} {N : ℕ} (d : ScatterDims (shape2 48 1024) S1 (shape2 N 1024)) (x0 : (shape2 48 1024).Idx → α) (idx : IVec S1 32)
  (upd : (shape2 N 1024).Idx → α) (o : ℕ) (hs0 : ∀ k, d.start k idx 0 = (o : ℤ)) (hs1 : ∀ k, d.start k idx 1 = 0)
  (hw0 : ∀ r e, d.window (ix2 r e) 0 = r.val) (hw1 : ∀ r e, d.window (ix2 r e) 1 = e.val)

include hs0 hs1 hw0 hw1

/-- Where an update lands: `o` rows down. -/
theorem lands (r : Fin N) (e : Fin 1024) (R : Fin 48) (E : Fin 1024) :
    d.resultIdx? (ix2 r e) idx = some (ix2 R E) ↔ R.val = o + r.val ∧ E = e := by
  refine (Routing.resultIdx?_ix2 d (ix2 r e) idx R E).trans ?_
  rw [Fin.ext_iff, hs0, hs1, hw0, hw1]
  omega

/-- A row that the update covers holds the update's row. -/
theorem rows_hit (r : Fin N) (e : Fin 1024) (R : Fin 48) (hR : R.val = o + r.val) :
    Host.scatter d (fun _ b => b) x0 idx upd (ix2 R e) = upd (ix2 r e) := by
  refine Routing.scatter_set_hit d x0 idx upd _ _ (fun k hk => ?_) (ix2 r e) ((lands d idx o hs0 hs1 hw0 hw1 r e R e).2 ⟨hR, rfl⟩)
  obtain ⟨r', e', rfl⟩ : ∃ (r' : Fin N) (e' : Fin 1024), k = ix2 r' e' := ⟨k 0, k 1, by funext i; fin_cases i <;> rfl⟩
  obtain ⟨h, rfl⟩ := (lands d idx o hs0 hs1 hw0 hw1 r' e' R e).1 hk
  have : r' = r := Fin.ext (by omega)
  rw [this]

/-- A row that the update does not cover holds what it held. -/
theorem rows_miss (R : Fin 48) (e : Fin 1024) (hR : R.val < o ∨ o + N ≤ R.val) :
    Host.scatter d (fun _ b => b) x0 idx upd (ix2 R e) = x0 (ix2 R e) := by
  refine Routing.scatter_set_miss d x0 idx upd _ (fun k hk => ?_)
  obtain ⟨r', e', rfl⟩ : ∃ (r' : Fin N) (e' : Fin 1024), k = ix2 r' e' := ⟨k 0, k 1, by funext i; fin_cases i <;> rfl⟩
  obtain ⟨h, rfl⟩ := (lands d idx o hs0 hs1 hw0 hw1 r' e' R e).1 hk
  have := r'.isLt
  omega

end

/-- The table of time rows: hours, weekdays and months below one another. -/
def tables (h : FVec Ideal S24x1024 .f32) (w : FVec Ideal S7x1024 .f32) (mo : FVec Ideal S12x1024 .f32) : FVec Ideal S48x1024 .f32 :=
  Host.scatter scatter_S48x1024_S1_S12x1024_01_n_0_0 (fun _ b => b)
    (Host.scatter scatter_S48x1024_S1_S7x1024_01_n_0_0 (fun _ b => b)
      (Host.scatter scatter_S48x1024_S1_S24x1024_01_n_0_0 (fun _ b => b)
        (broadcastInDim S48x1024 ![] bcast_S_S48x1024 (constant S_ .f32 0x00000000#32 : FVec Ideal S_ .f32)) (broadcastInDim S1 ![] bcast_S_S1 (constantI S_ 32 0#32)) h)
      (broadcastInDim S1 ![] bcast_S_S1 (constantI S_ 32 24#32)) w)
    (broadcastInDim S1 ![] bcast_S_S1 (constantI S_ 32 31#32)) mo

section
variable (h : FVec Ideal S24x1024 .f32) (w : FVec Ideal S7x1024 .f32) (mo : FVec Ideal S12x1024 .f32) (e : Fin 1024)

/-- The stacked tables' rows from 31 are the months'. -/
theorem tables_month (r : Fin 12) (R : Fin 48) (hR : R.val = 31 + r.val) : tables h w mo (ix2 R e) = mo (ix2 r e) :=
  rows_hit (N := 12) scatter_S48x1024_S1_S12x1024_01_n_0_0 _ _ mo 31 (fun _ => rfl) (fun _ => rfl) (fun _ _ => rfl) (fun _ _ => rfl) r e R hR

/-- The stacked tables' rows from 24 are the weekdays'. -/
theorem tables_week (r : Fin 7) (R : Fin 48) (hR : R.val = 24 + r.val) : tables h w mo (ix2 R e) = w (ix2 r e) :=
  (rows_miss (N := 12) scatter_S48x1024_S1_S12x1024_01_n_0_0 _ _ mo 31 (fun _ => rfl) (fun _ => rfl) (fun _ _ => rfl) (fun _ _ => rfl) R e
    (by omega)).trans
  (rows_hit (N := 7) scatter_S48x1024_S1_S7x1024_01_n_0_0 _ _ w 24 (fun _ => rfl) (fun _ => rfl) (fun _ _ => rfl) (fun _ _ => rfl) r e R hR)

/-- The stacked tables' first rows are the hours'. -/
theorem tables_hour (r : Fin 24) (R : Fin 48) (hR : R.val = r.val) : tables h w mo (ix2 R e) = h (ix2 r e) :=
  ((rows_miss (N := 12) scatter_S48x1024_S1_S12x1024_01_n_0_0 _ _ mo 31 (fun _ => rfl) (fun _ => rfl) (fun _ _ => rfl) (fun _ _ => rfl) R e
    (by omega)).trans
  (rows_miss (N := 7) scatter_S48x1024_S1_S7x1024_01_n_0_0 _ _ w 24 (fun _ => rfl) (fun _ => rfl) (fun _ _ => rfl) (fun _ _ => rfl) R e (by omega))).trans
  (rows_hit (N := 24) scatter_S48x1024_S1_S24x1024_01_n_0_0 _ _ h 0 (fun _ => rfl) (fun _ => rfl) (fun _ _ => rfl) (fun _ _ => rfl) r e R (by omega))

end

/-! ## The windows' arrays -/

section
variable (m : (ℓ : Loc nD τ sig) → Buf (Elt Ideal) ℓ) (c : Dev nD)

/-- The values reach the kernel as the argument gives them. -/
theorem values_eq : V m c main_call0_v7 = (m ((c : Thread nD τ).loc main_arg0) : FVec Ideal S16x512x32 .f32) := by
  unfold V hostOps0
  after_results
  rfl

/-- The kernel's table is the three tables stacked. -/
theorem tables_eq : V m c main_call0_v11 = truncf .bf16 (tables (m ((c : Thread nD τ).loc main_arg4)) (m ((c : Thread nD τ).loc main_arg5)) (m ((c : Thread nD τ).loc main_arg6))) bitsLt_bf16_f32 := by
  unfold V hostOps0 tables
  after_results
  simp only [StableHlo.TRef.ofBuf_toBuf]
  rfl

/-- The kernel's position rows are the first 512 of the argument's. -/
theorem pos_eq (s : Fin 512) (e : Fin 1024) : (V m c main_call0_v9 : FVec Ideal S512x1024 .f32) (ix2 s e)
    = (m ((c : Thread nD τ).loc main_arg7) : FVec Ideal S1x1000x1024 .f32) (ix3 0 (⟨s.val, by omega⟩ : Fin 1000) e) := by
  have h : V m c main_call0_v9 = shapeCast S512x1024 (extractStridedSlice S1x512x1024 ![0, 0, 0] (m ((c : Thread nD τ).loc main_arg7) : FVec Ideal S1x1000x1024 .f32) slices_S1x1000x1024_S1x512x1024_0_0_0)
      shapeCasts_S1x512x1024_S512x1024 := by
    unfold V hostOps0
    after_results
    rfl
  rw [h]
  pointwise

/-- The embedding's weights reach the kernel as the argument gives them. -/
theorem valW_eq : V m c main_call0_v10 = (m ((c : Thread nD τ).loc main_arg2) : FVec Ideal S32x1024 .f32) := by
  unfold V hostOps0
  after_results
  rfl

/-- The convolution's weights reach the kernel as the argument gives them. -/
theorem convW_eq : V m c main_call0_v12 = (m ((c : Thread nD τ).loc main_arg8) : FVec Ideal S3x1024x1024 .f32) := by
  unfold V hostOps0
  after_results
  rfl

/-- The queries' weights reach the kernel as the argument gives them. -/
theorem qW_eq : V m c main_call0_v13 = (m ((c : Thread nD τ).loc main_arg10) : FVec Ideal S1024x1024 .f32) := by
  unfold V hostOps0
  after_results
  rfl

/-- The keys' weights reach the kernel as the argument gives them. -/
theorem kW_eq : V m c main_call0_v14 = (m ((c : Thread nD τ).loc main_arg12) : FVec Ideal S1024x1024 .f32) := by
  unfold V hostOps0
  after_results
  rfl

/-- The values' weights reach the kernel as the argument gives them. -/
theorem vW_eq : V m c main_call0_v15 = (m ((c : Thread nD τ).loc main_arg14) : FVec Ideal S1024x1024 .f32) := by
  unfold V hostOps0
  after_results
  rfl

/-- A vector cast to a row, at an index. -/
theorem row_apply (b : FVec Ideal S1024 .f32) (e : Fin 1024) : shapeCast S1x1024 b shapeCasts_S1024_S1x1024 (ix2 0 e) = b (ix1 e) := by
  pointwise

/-- The embedding's bias reaches the kernel as a row. -/
theorem valB_eq : V m c main_call0_v16 = shapeCast S1x1024 (m ((c : Thread nD τ).loc main_arg3) : FVec Ideal S1024 .f32) shapeCasts_S1024_S1x1024 := by
  unfold V hostOps0
  after_results
  rfl

/-- The convolution's bias reaches the kernel as a row. -/
theorem convB_eq : V m c main_call0_v17 = shapeCast S1x1024 (m ((c : Thread nD τ).loc main_arg9) : FVec Ideal S1024 .f32) shapeCasts_S1024_S1x1024 := by
  unfold V hostOps0
  after_results
  rfl

/-- The queries' bias reaches the kernel as a row. -/
theorem qB_eq : V m c main_call0_v18 = shapeCast S1x1024 (m ((c : Thread nD τ).loc main_arg11) : FVec Ideal S1024 .f32) shapeCasts_S1024_S1x1024 := by
  unfold V hostOps0
  after_results
  rfl

/-- The keys' bias reaches the kernel as a row. -/
theorem kB_eq : V m c main_call0_v19 = shapeCast S1x1024 (m ((c : Thread nD τ).loc main_arg13) : FVec Ideal S1024 .f32) shapeCasts_S1024_S1x1024 := by
  unfold V hostOps0
  after_results
  rfl

/-- The values' bias reaches the kernel as a row. -/
theorem vB_eq : V m c main_call0_v20 = shapeCast S1x1024 (m ((c : Thread nD τ).loc main_arg15) : FVec Ideal S1024 .f32) shapeCasts_S1024_S1x1024 := by
  unfold V hostOps0
  after_results
  rfl

end

end Cert.KernelIdeal.HostPrefix

end
-- ==== Proof.Args.lean ====
/- The layer's parameters and the sequences of the batch, as the argument arrays give them. -/
module

public import proofs.«01_k».proof.Proof.Layer
public import Idealize.ShloMosaic.Lib.Pointwise

@[expose] public section

noncomputable section

namespace Cert.Sparse

open Idealize.ShloMosaic

/-- The parameters that sixteen argument arrays hold (all but the first two). -/
def argParams (a2 : FVec Ideal ⟨2, ![32, 1024]⟩ .f32) (a3 : FVec Ideal ⟨1, ![1024]⟩ .f32) (a4 : FVec Ideal ⟨2, ![24, 1024]⟩ .f32)
    (a5 : FVec Ideal ⟨2, ![7, 1024]⟩ .f32) (a6 : FVec Ideal ⟨2, ![12, 1024]⟩ .f32) (a7 : FVec Ideal ⟨3, ![1, 1000, 1024]⟩ .f32)
    (a8 : FVec Ideal ⟨3, ![3, 1024, 1024]⟩ .f32) (a9 : FVec Ideal ⟨1, ![1024]⟩ .f32)
    (a10 : FVec Ideal ⟨2, ![1024, 1024]⟩ .f32) (a11 : FVec Ideal ⟨1, ![1024]⟩ .f32)
    (a12 : FVec Ideal ⟨2, ![1024, 1024]⟩ .f32) (a13 : FVec Ideal ⟨1, ![1024]⟩ .f32)
    (a14 : FVec Ideal ⟨2, ![1024, 1024]⟩ .f32) (a15 : FVec Ideal ⟨1, ![1024]⟩ .f32) : Params where
  valW d e := a2 (ix2 d e)
  valB e := a3 (ix1 e)
  hour r e := a4 (ix2 r e)
  week r e := a5 (ix2 r e)
  month r e := a6 (ix2 r e)
  pos s e := a7 (ix3 0 (⟨s.val, by omega⟩ : Fin 1000) e)
  convW k i j := a8 (ix3 k i j)
  convB e := a9 (ix1 e)
  qW i j := a10 (ix2 i j)
  qB e := a11 (ix1 e)
  kW i j := a12 (ix2 i j)
  kB e := a13 (ix1 e)
  vW i j := a14 (ix2 i j)
  vB e := a15 (ix1 e)

/-- Sequence `b` of the batch. -/
def argRows (a0 : FVec Ideal ⟨3, ![16, 512, 32]⟩ .f32) (b : Fin 16) (s : Fin 512) (d : Fin 32) : EReal := a0 (ix3 b s d)

end Cert.Sparse

end
-- ==== Proof.Blocks.lean ====
/- The blocks that a grid step loads, in terms of the launch's arguments, and the kernel's result array at every index. -/
module

public import proofs.«01_k».proof.Proof.Step
public import proofs.«01_k».proof.Proof.HostPrefix
public import proofs.«01_k».proof.Proof.Args
public import proofs.«01_k».proof.Proof.Gen.KernelIdeal.Value

@[expose] public section

set_option maxRecDepth 16384

noncomputable section

namespace Cert.KernelIdeal.Blocks

open Cert.KernelIdeal Cert.KernelIdeal.Gen Cert.Sparse Idealize.ShloMosaic Idealize.ShloMosaic.TcCoe

/-! ## Where a window's block lies in its array -/

/-- Window 0's block at a step: that of the step's sequence. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Window 1's block at a step: that of the step's sequence. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Window 2's block at a step: the first, at every step. -/
theorem idx2 : ∀ t : Fin cfg0.N, win0_2.index t (0 : Fin 2) = 0 ∧ win0_2.index t (1 : Fin 2) = 0 :=
  (by decide +kernel : ∀ t : Fin grid0.N, _)

/-- Window 3's block at a step: the first, at every step. -/
theorem idx3 : ∀ t : Fin cfg0.N, win0_3.index t (0 : Fin 2) = 0 ∧ win0_3.index t (1 : Fin 2) = 0 :=
  (by decide +kernel : ∀ t : Fin grid0.N, _)

/-- Window 4's block at a step: the first, at every step. -/
theorem idx4 : ∀ t : Fin cfg0.N, win0_4.index t (0 : Fin 2) = 0 ∧ win0_4.index t (1 : Fin 2) = 0 :=
  (by decide +kernel : ∀ t : Fin grid0.N, _)

/-- Window 5's block at a step: the first, at every step. -/
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

/-- Window 6's block at a step: the first, at every step. -/
theorem idx6 : ∀ t : Fin cfg0.N, win0_6.index t (0 : Fin 2) = 0 ∧ win0_6.index t (1 : Fin 2) = 0 :=
  (by decide +kernel : ∀ t : Fin grid0.N, _)

/-- Window 7's block at a step: the first, at every step. -/
theorem idx7 : ∀ t : Fin cfg0.N, win0_7.index t (0 : Fin 2) = 0 ∧ win0_7.index t (1 : Fin 2) = 0 :=
  (by decide +kernel : ∀ t : Fin grid0.N, _)

/-- Window 8's block at a step: the first, at every step. -/
theorem idx8 : ∀ t : Fin cfg0.N, win0_8.index t (0 : Fin 2) = 0 ∧ win0_8.index t (1 : Fin 2) = 0 :=
  (by decide +kernel : ∀ t : Fin grid0.N, _)

/-- Window 9's block at a step: the first, at every step. -/
theorem idx9 : ∀ t : Fin cfg0.N, win0_9.index t (0 : Fin 2) = 0 ∧ win0_9.index t (1 : Fin 2) = 0 :=
  (by decide +kernel : ∀ t : Fin grid0.N, _)

/-- Window 10's block at a step: the first, at every step. -/
theorem idx10 : ∀ t : Fin cfg0.N, win0_10.index t (0 : Fin 2) = 0 ∧ win0_10.index t (1 : Fin 2) = 0 :=
  (by decide +kernel : ∀ t : Fin grid0.N, _)

/-- Window 11's block at a step: the first, at every step. -/
theorem idx11 : ∀ t : Fin cfg0.N, win0_11.index t (0 : Fin 2) = 0 ∧ win0_11.index t (1 : Fin 2) = 0 :=
  (by decide +kernel : ∀ t : Fin grid0.N, _)

/-- Window 12's block at a step: the first, at every step. -/
theorem idx12 : ∀ t : Fin cfg0.N, win0_12.index t (0 : Fin 2) = 0 ∧ win0_12.index t (1 : Fin 2) = 0 :=
  (by decide +kernel : ∀ t : Fin grid0.N, _)

/-- Window 13's block at a step: the first, at every step. -/
theorem idx13 : ∀ t : Fin cfg0.N, win0_13.index t (0 : Fin 2) = 0 ∧ win0_13.index t (1 : Fin 2) = 0 :=
  (by decide +kernel : ∀ t : Fin grid0.N, _)

/-- Window 14's block at a step: that of the step's sequence. -/
theorem idx14 : ∀ t : Fin cfg0.N, win0_14.index t (0 : Fin 3) = t.val ∧ win0_14.index t (1 : Fin 3) = 0 ∧ win0_14.index t (2 : Fin 3) = 0 :=
  (by decide +kernel : ∀ t : Fin grid0.N, _)

/-- An index of window 0's block in its array: the step's sequence leads. -/
theorem emb0 (t : Fin cfg0.N) (b : Fin 16) (hb : b.val = t.val) (s : Fin 512) (d : Fin 32) :
    ((cfg0.win 0).blk t).view.emb (ix3 0 s d : S1x512x32.Idx) = (ix3 b s d : S16x512x32.Idx) := by
  obtain ⟨e0, e1, e2⟩ := idx0 t
  funext a; apply Fin.ext
  match a with
  | ⟨0, _⟩ => show win0_0.index t (0 : Fin 3) * 1 + 1 * 0 = b.val; omega
  | ⟨1, _⟩ => show win0_0.index t (1 : Fin 3) * 512 + 1 * s.val = s.val; omega
  | ⟨2, _⟩ => show win0_0.index t (2 : Fin 3) * 32 + 1 * d.val = d.val; omega

/-- What window 0 holds at a step: the rows of the step's sequence. -/
theorem iblk0_apply (m : (ℓ : Loc nD τ sig) → Buf (Elt Ideal) ℓ) (c : Dev nD) (t : Fin cfg0.N) (b : Fin 16) (hb : b.val = t.val) (s : Fin 512) (d : Fin 32) :
    (iblk m c 0 t : S1x512x32.Idx → _) (ix3 0 s d) = (V m c main_call0_v7 : S16x512x32.Idx → _) (ix3 b s d) := by
  show V m c main_call0_v7 (((cfg0.win 0).blk t).view.emb (ix3 0 s d)) = _; rw [emb0 t b hb]

/-- An index of window 1's block in its array: the step's sequence leads. -/
theorem emb1 (t : Fin cfg0.N) (b : Fin 16) (hb : b.val = t.val) (s : Fin 512) (d : Fin 3) :
    ((cfg0.win 1).blk t).view.emb (ix3 0 s d : S1x512x3.Idx) = (ix3 b s d : S16x512x3.Idx) := by
  obtain ⟨e0, e1, e2⟩ := idx1 t
  funext a; apply Fin.ext
  match a with
  | ⟨0, _⟩ => show win0_1.index t (0 : Fin 3) * 1 + 1 * 0 = b.val; omega
  | ⟨1, _⟩ => show win0_1.index t (1 : Fin 3) * 512 + 1 * s.val = s.val; omega
  | ⟨2, _⟩ => show win0_1.index t (2 : Fin 3) * 3 + 1 * d.val = d.val; omega

/-- What window 1 holds at a step: the rows of the step's sequence. -/
theorem iblk1_apply (m : (ℓ : Loc nD τ sig) → Buf (Elt Ideal) ℓ) (c : Dev nD) (t : Fin cfg0.N) (b : Fin 16) (hb : b.val = t.val) (s : Fin 512) (d : Fin 3) :
    (iblk m c 1 t : S1x512x3.Idx → _) (ix3 0 s d) = (V m c main_arg1 : S16x512x3.Idx → _) (ix3 b s d) := by
  show V m c main_arg1 (((cfg0.win 1).blk t).view.emb (ix3 0 s d)) = _; rw [emb1 t b hb]

/-- An index of window 2's block in its array: itself, the block being the whole array. -/
theorem emb2 (t : Fin cfg0.N) (j : S512x1024.Idx) : ((cfg0.win 2).blk t).view.emb j = j := by
  obtain ⟨e0, e1⟩ := idx2 t
  funext a; apply Fin.ext
  match a with
  | ⟨0, _⟩ => show win0_2.index t (0 : Fin 2) * 512 + 1 * (j 0).val = (j 0).val; omega
  | ⟨1, _⟩ => show win0_2.index t (1 : Fin 2) * 1024 + 1 * (j 1).val = (j 1).val; omega

/-- What window 2 holds at every step: its whole array. -/
theorem iblk2_eq (m : (ℓ : Loc nD τ sig) → Buf (Elt Ideal) ℓ) (c : Dev nD) (t : Fin cfg0.N) : iblk m c 2 t = V m c main_call0_v9 := by
  funext j; show V m c main_call0_v9 (((cfg0.win 2).blk t).view.emb j) = V m c main_call0_v9 j; rw [emb2]

/-- An index of window 3's block in its array: itself, the block being the whole array. -/
theorem emb3 (t : Fin cfg0.N) (j : S32x1024.Idx) : ((cfg0.win 3).blk t).view.emb j = j := by
  obtain ⟨e0, e1⟩ := idx3 t
  funext a; apply Fin.ext
  match a with
  | ⟨0, _⟩ => show win0_3.index t (0 : Fin 2) * 32 + 1 * (j 0).val = (j 0).val; omega
  | ⟨1, _⟩ => show win0_3.index t (1 : Fin 2) * 1024 + 1 * (j 1).val = (j 1).val; omega

/-- What window 3 holds at every step: its whole array. -/
theorem iblk3_eq (m : (ℓ : Loc nD τ sig) → Buf (Elt Ideal) ℓ) (c : Dev nD) (t : Fin cfg0.N) : iblk m c 3 t = V m c main_call0_v10 := by
  funext j; show V m c main_call0_v10 (((cfg0.win 3).blk t).view.emb j) = V m c main_call0_v10 j; rw [emb3]

/-- An index of window 4's block in its array: itself, the block being the whole array. -/
theorem emb4 (t : Fin cfg0.N) (j : S48x1024.Idx) : ((cfg0.win 4).blk t).view.emb j = j := by
  obtain ⟨e0, e1⟩ := idx4 t
  funext a; apply Fin.ext
  match a with
  | ⟨0, _⟩ => show win0_4.index t (0 : Fin 2) * 48 + 1 * (j 0).val = (j 0).val; omega
  | ⟨1, _⟩ => show win0_4.index t (1 : Fin 2) * 1024 + 1 * (j 1).val = (j 1).val; omega

/-- What window 4 holds at every step: its whole array. -/
theorem iblk4_eq (m : (ℓ : Loc nD τ sig) → Buf (Elt Ideal) ℓ) (c : Dev nD) (t : Fin cfg0.N) : iblk m c 4 t = V m c main_call0_v11 := by
  funext j; show V m c main_call0_v11 (((cfg0.win 4).blk t).view.emb j) = V m c main_call0_v11 j; rw [emb4]

/-- An index of window 5's block in its array: itself, the block being the whole array. -/
theorem emb5 (t : Fin cfg0.N) (j : S3x1024x1024.Idx) : ((cfg0.win 5).blk t).view.emb j = j := by
  obtain ⟨e0, e1, e2⟩ := idx5 t
  funext a; apply Fin.ext
  match a with
  | ⟨0, _⟩ => show win0_5.index t (0 : Fin 3) * 3 + 1 * (j 0).val = (j 0).val; omega
  | ⟨1, _⟩ => show win0_5.index t (1 : Fin 3) * 1024 + 1 * (j 1).val = (j 1).val; omega
  | ⟨2, _⟩ => show win0_5.index t (2 : Fin 3) * 1024 + 1 * (j 2).val = (j 2).val; omega

/-- What window 5 holds at every step: its whole array. -/
theorem iblk5_eq (m : (ℓ : Loc nD τ sig) → Buf (Elt Ideal) ℓ) (c : Dev nD) (t : Fin cfg0.N) : iblk m c 5 t = V m c main_call0_v12 := by
  funext j; show V m c main_call0_v12 (((cfg0.win 5).blk t).view.emb j) = V m c main_call0_v12 j; rw [emb5]

/-- An index of window 6's block in its array: itself, the block being the whole array. -/
theorem emb6 (t : Fin cfg0.N) (j : S1024x1024.Idx) : ((cfg0.win 6).blk t).view.emb j = j := by
  obtain ⟨e0, e1⟩ := idx6 t
  funext a; apply Fin.ext
  match a with
  | ⟨0, _⟩ => show win0_6.index t (0 : Fin 2) * 1024 + 1 * (j 0).val = (j 0).val; omega
  | ⟨1, _⟩ => show win0_6.index t (1 : Fin 2) * 1024 + 1 * (j 1).val = (j 1).val; omega

/-- What window 6 holds at every step: its whole array. -/
theorem iblk6_eq (m : (ℓ : Loc nD τ sig) → Buf (Elt Ideal) ℓ) (c : Dev nD) (t : Fin cfg0.N) : iblk m c 6 t = V m c main_call0_v13 := by
  funext j; show V m c main_call0_v13 (((cfg0.win 6).blk t).view.emb j) = V m c main_call0_v13 j; rw [emb6]

/-- An index of window 7's block in its array: itself, the block being the whole array. -/
theorem emb7 (t : Fin cfg0.N) (j : S1024x1024.Idx) : ((cfg0.win 7).blk t).view.emb j = j := by
  obtain ⟨e0, e1⟩ := idx7 t
  funext a; apply Fin.ext
  match a with
  | ⟨0, _⟩ => show win0_7.index t (0 : Fin 2) * 1024 + 1 * (j 0).val = (j 0).val; omega
  | ⟨1, _⟩ => show win0_7.index t (1 : Fin 2) * 1024 + 1 * (j 1).val = (j 1).val; omega

/-- What window 7 holds at every step: its whole array. -/
theorem iblk7_eq (m : (ℓ : Loc nD τ sig) → Buf (Elt Ideal) ℓ) (c : Dev nD) (t : Fin cfg0.N) : iblk m c 7 t = V m c main_call0_v14 := by
  funext j; show V m c main_call0_v14 (((cfg0.win 7).blk t).view.emb j) = V m c main_call0_v14 j; rw [emb7]

/-- An index of window 8's block in its array: itself, the block being the whole array. -/
theorem emb8 (t : Fin cfg0.N) (j : S1024x1024.Idx) : ((cfg0.win 8).blk t).view.emb j = j := by
  obtain ⟨e0, e1⟩ := idx8 t
  funext a; apply Fin.ext
  match a with
  | ⟨0, _⟩ => show win0_8.index t (0 : Fin 2) * 1024 + 1 * (j 0).val = (j 0).val; omega
  | ⟨1, _⟩ => show win0_8.index t (1 : Fin 2) * 1024 + 1 * (j 1).val = (j 1).val; omega

/-- What window 8 holds at every step: its whole array. -/
theorem iblk8_eq (m : (ℓ : Loc nD τ sig) → Buf (Elt Ideal) ℓ) (c : Dev nD) (t : Fin cfg0.N) : iblk m c 8 t = V m c main_call0_v15 := by
  funext j; show V m c main_call0_v15 (((cfg0.win 8).blk t).view.emb j) = V m c main_call0_v15 j; rw [emb8]

/-- An index of window 9's block in its array: itself, the block being the whole array. -/
theorem emb9 (t : Fin cfg0.N) (j : S1x1024.Idx) : ((cfg0.win 9).blk t).view.emb j = j := by
  obtain ⟨e0, e1⟩ := idx9 t
  funext a; apply Fin.ext
  match a with
  | ⟨0, _⟩ => show win0_9.index t (0 : Fin 2) * 1 + 1 * (j 0).val = (j 0).val; omega
  | ⟨1, _⟩ => show win0_9.index t (1 : Fin 2) * 1024 + 1 * (j 1).val = (j 1).val; omega

/-- What window 9 holds at every step: its whole array. -/
theorem iblk9_eq (m : (ℓ : Loc nD τ sig) → Buf (Elt Ideal) ℓ) (c : Dev nD) (t : Fin cfg0.N) : iblk m c 9 t = V m c main_call0_v16 := by
  funext j; show V m c main_call0_v16 (((cfg0.win 9).blk t).view.emb j) = V m c main_call0_v16 j; rw [emb9]

/-- An index of window 10's block in its array: itself, the block being the whole array. -/
theorem emb10 (t : Fin cfg0.N) (j : S1x1024.Idx) : ((cfg0.win 10).blk t).view.emb j = j := by
  obtain ⟨e0, e1⟩ := idx10 t
  funext a; apply Fin.ext
  match a with
  | ⟨0, _⟩ => show win0_10.index t (0 : Fin 2) * 1 + 1 * (j 0).val = (j 0).val; omega
  | ⟨1, _⟩ => show win0_10.index t (1 : Fin 2) * 1024 + 1 * (j 1).val = (j 1).val; omega

/-- What window 10 holds at every step: its whole array. -/
theorem iblk10_eq (m : (ℓ : Loc nD τ sig) → Buf (Elt Ideal) ℓ) (c : Dev nD) (t : Fin cfg0.N) : iblk m c 10 t = V m c main_call0_v17 := by
  funext j; show V m c main_call0_v17 (((cfg0.win 10).blk t).view.emb j) = V m c main_call0_v17 j; rw [emb10]

/-- An index of window 11's block in its array: itself, the block being the whole array. -/
theorem emb11 (t : Fin cfg0.N) (j : S1x1024.Idx) : ((cfg0.win 11).blk t).view.emb j = j := by
  obtain ⟨e0, e1⟩ := idx11 t
  funext a; apply Fin.ext
  match a with
  | ⟨0, _⟩ => show win0_11.index t (0 : Fin 2) * 1 + 1 * (j 0).val = (j 0).val; omega
  | ⟨1, _⟩ => show win0_11.index t (1 : Fin 2) * 1024 + 1 * (j 1).val = (j 1).val; omega

/-- What window 11 holds at every step: its whole array. -/
theorem iblk11_eq (m : (ℓ : Loc nD τ sig) → Buf (Elt Ideal) ℓ) (c : Dev nD) (t : Fin cfg0.N) : iblk m c 11 t = V m c main_call0_v18 := by
  funext j; show V m c main_call0_v18 (((cfg0.win 11).blk t).view.emb j) = V m c main_call0_v18 j; rw [emb11]

/-- An index of window 12's block in its array: itself, the block being the whole array. -/
theorem emb12 (t : Fin cfg0.N) (j : S1x1024.Idx) : ((cfg0.win 12).blk t).view.emb j = j := by
  obtain ⟨e0, e1⟩ := idx12 t
  funext a; apply Fin.ext
  match a with
  | ⟨0, _⟩ => show win0_12.index t (0 : Fin 2) * 1 + 1 * (j 0).val = (j 0).val; omega
  | ⟨1, _⟩ => show win0_12.index t (1 : Fin 2) * 1024 + 1 * (j 1).val = (j 1).val; omega

/-- What window 12 holds at every step: its whole array. -/
theorem iblk12_eq (m : (ℓ : Loc nD τ sig) → Buf (Elt Ideal) ℓ) (c : Dev nD) (t : Fin cfg0.N) : iblk m c 12 t = V m c main_call0_v19 := by
  funext j; show V m c main_call0_v19 (((cfg0.win 12).blk t).view.emb j) = V m c main_call0_v19 j; rw [emb12]

/-- An index of window 13's block in its array: itself, the block being the whole array. -/
theorem emb13 (t : Fin cfg0.N) (j : S1x1024.Idx) : ((cfg0.win 13).blk t).view.emb j = j := by
  obtain ⟨e0, e1⟩ := idx13 t
  funext a; apply Fin.ext
  match a with
  | ⟨0, _⟩ => show win0_13.index t (0 : Fin 2) * 1 + 1 * (j 0).val = (j 0).val; omega
  | ⟨1, _⟩ => show win0_13.index t (1 : Fin 2) * 1024 + 1 * (j 1).val = (j 1).val; omega

/-- What window 13 holds at every step: its whole array. -/
theorem iblk13_eq (m : (ℓ : Loc nD τ sig) → Buf (Elt Ideal) ℓ) (c : Dev nD) (t : Fin cfg0.N) : iblk m c 13 t = V m c main_call0_v20 := by
  funext j; show V m c main_call0_v20 (((cfg0.win 13).blk t).view.emb j) = V m c main_call0_v20 j; rw [emb13]

/-- An index of window 14's block in its array: the step's sequence leads. -/
theorem emb14 (t : Fin cfg0.N) (b : Fin 16) (hb : b.val = t.val) (s : Fin 512) (d : Fin 1024) :
    ((cfg0.win 14).blk t).view.emb (ix3 0 s d : S1x512x1024.Idx) = (ix3 b s d : S16x512x1024.Idx) := by
  obtain ⟨e0, e1, e2⟩ := idx14 t
  funext a; apply Fin.ext
  match a with
  | ⟨0, _⟩ => show win0_14.index t (0 : Fin 3) * 1 + 1 * 0 = b.val; omega
  | ⟨1, _⟩ => show win0_14.index t (1 : Fin 3) * 512 + 1 * s.val = s.val; omega
  | ⟨2, _⟩ => show win0_14.index t (2 : Fin 3) * 1024 + 1 * d.val = d.val; omega

/-! ## The result -/

/-- Narrowing rounds nothing over the extended reals. -/
theorem narrowed_apply (x : FVec Ideal S48x1024 .f32) (i : S48x1024.Idx) : truncf (F := Ideal) .bf16 x bitsLt_bf16_f32 i = x i := rfl

section
variable (m : (ℓ : Loc nD τ sig) → Buf (Elt Ideal) ℓ) (c : Dev nD)

/-- The layer's parameters, as the launch's arguments give them. -/
def params : Params := argParams (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

variable (ts : Fin 16 → Fin 512 → Times)
  (hts : ∀ b s k, (m ((c : Thread nD τ).loc main_arg1) : IVec S16x512x3 32) (ix3 b s k) = BitVec.ofNat 32 (ts b s k).val)

include hts

/-- At every step the windows hold the step's sequence and the layer's parameters. -/
theorem holds (t : Fin cfg0.N) (b : Fin 16) (hb : b.val = t.val) :
    Step.Holds (params m c) (argRows (m ((c : Thread nD τ).loc main_arg0)) b) (ts b) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  h0 s d := by rw [iblk0_apply m c t b hb, HostPrefix.values_eq]; rfl
  h1 s k := by rw [iblk1_apply m c t b hb, V_main_arg1]; exact hts b s k
  h2 s e := by rw [iblk2_eq]; exact HostPrefix.pos_eq m c s e
  h3 d e := by rw [iblk3_eq, HostPrefix.valW_eq]; rfl
  h4a r e := by rw [iblk4_eq, HostPrefix.tables_eq]; exact (narrowed_apply _ _).trans (HostPrefix.tables_hour _ _ _ e r _ rfl)
  h4b r e := by rw [iblk4_eq, HostPrefix.tables_eq]; exact (narrowed_apply _ _).trans (HostPrefix.tables_week _ _ _ e r _ (Nat.add_comm _ _))
  h4c r e := by rw [iblk4_eq, HostPrefix.tables_eq]; exact (narrowed_apply _ _).trans (HostPrefix.tables_month _ _ _ e r _ (Nat.add_comm _ _))
  h5 k i j := by rw [iblk5_eq, HostPrefix.convW_eq]; rfl
  h6 i j := by rw [iblk6_eq, HostPrefix.qW_eq]; rfl
  h7 i j := by rw [iblk7_eq, HostPrefix.kW_eq]; rfl
  h8 i j := by rw [iblk8_eq, HostPrefix.vW_eq]; rfl
  h9 e := by rw [iblk9_eq, HostPrefix.valB_eq]; exact HostPrefix.row_apply _ e
  h10 e := by rw [iblk10_eq, HostPrefix.convB_eq]; exact HostPrefix.row_apply _ e
  h11 e := by rw [iblk11_eq, HostPrefix.qB_eq]; exact HostPrefix.row_apply _ e
  h12 e := by rw [iblk12_eq, HostPrefix.kB_eq]; exact HostPrefix.row_apply _ e
  h13 e := by rw [iblk13_eq, HostPrefix.vB_eq]; exact HostPrefix.row_apply _ e

/-- What a grid step leaves in its output block. -/
theorem flushed_apply (t : Fin cfg0.N) (b : Fin 16) (hb : b.val = t.val) (s : Fin 512) (e : Fin 1024) :
    ((dats m 0 c).flushed 14 t : S1x512x1024.Idx → EReal) (ix3 0 s e)
      = (params m c).kernel (argRows (m ((c : Thread nD τ).loc main_arg0)) b) (ts b) s e := by
  have h := Step.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ (holds m c ts hts t b hb) s e
  refine Eq.trans ?_ h
  exact congrFun (Value.flushed14_A m c t) (ix3 0 s e)

/-- The kernel's result array after the run, at every index. -/
theorem result_apply (b : Fin 16) (s : Fin 512) (e : Fin 1024) :
    ((dats m 0 c).arrAt 14 cfg0.N : FVec Ideal S16x512x1024 .f32) (ix3 b s e)
      = (params m c).kernel (argRows (m ((c : Thread nD τ).loc main_arg0)) b) (ts b) s e := by
  have hN : cfg0.N = 16 := N_0
  have hb : b.val = (⟨b.val, by omega⟩ : Fin cfg0.N).val := rfl
  refine (congrArg (fun i => ((dats m 0 c).arrAt 14 cfg0.N : FVec Ideal S16x512x1024 .f32) i) (emb14 ⟨b.val, by omega⟩ b hb s e).symm).trans ?_
  refine ((dats m 0 c).arrAt_emb_eq_flushed 14 Value.disjoint14 ⟨b.val, by omega⟩ (flush0_14 _) (ix3 0 s e)).trans ?_
  exact flushed_apply m c ts hts _ b hb s e

end

end Cert.KernelIdeal.Blocks

end
-- ==== Proof.RefRows.lean ====
/- The reference's embedding, read at an index: the rows that the time features choose, and the sums around them. -/
module

public import proofs.«01_k».proof.Proof.Args
public import proofs.«01_k».proof.Proof.Gen.ReferenceIdeal.Run
public import Idealize.ShloMosaic.Lib.Pointwise
public import Idealize.ShloMosaic.Lib.StableHlo.Predicate

@[expose] public section

set_option maxRecDepth 16384

noncomputable section

namespace Cert.ReferenceIdeal.Rows

open Cert.ReferenceIdeal Cert.ReferenceIdeal.Gen Cert.ReferenceIdeal.Value Cert.Sparse
open Idealize.ShloMosaic Idealize.ShloMosaic.TcCoe Idealize.ShloMosaic.Tactic Idealize.SL.Sem

/-! ## Gathers -/

/-- A gather reads the operand where the three coordinates of its slices add up. -/
theorem gather_eq {α : Type} {s si t : Shape} {w : ℕ} (d : GatherDims s si t) (x : s.Idx → α) (idx : IVec si w) (j : t.Idx) (i : s.Idx)
    (h : ∀ a, d.start j idx a + d.batchCoord j a + d.offCoord j a = (i a).val) : Host.gather d x idx j = x i := by
  unfold Host.gather
  exact congrArg x (funext fun a => Fin.ext (h a))

/-- A small word as a signed number. -/
theorem word_toNat (n N : ℕ) (hn : n < N) (hN : N ≤ 512) : min (BitVec.ofNat 32 n).toInt.toNat (N - 1) = n := by
  have : (BitVec.ofNat 32 n).toInt = n := by rw [BitVec.toInt_ofNat', Int.bmod_eq_of_le] <;> omega
  rw [this]
  omega

/-- The rows of a table with 1024 columns that the indices of 16 sequences choose. -/
abbrev tableDims (N : ℕ) (wf : GatherDims.WF ⟨2, ![N, 1024]⟩ S16x512x1 S16x512x1024 [2] [0] [] [0] [] 2 ![1, 1024]) :
    GatherDims ⟨2, ![N, 1024]⟩ S16x512x1 S16x512x1024 where
  offsetDims := [2]
  collapsedSliceDims := [0]
  operandBatchingDims := []
  startIndexMap := [0]
  startIndicesBatchingDims := []
  indexVectorDim := 2
  sliceSizes := ![1, 1024]
  wf := wf

/-- A table's row that an index chooses. -/
theorem table_gather {α : Type} (N : ℕ) (hN : N ≤ 512) (wf) (x : Shape.Idx ⟨2, ![N, 1024]⟩ → α) (idx : IVec S16x512x1 32) (b : Fin 16) (s : Fin 512)
    (e : Fin 1024) (r : Fin N) (hr : idx (ix3 b s 0) = BitVec.ofNat 32 r.val) :
    Host.gather (tableDims N wf) x idx (ix3 b s e) = x (ix2 r e) := by
  refine gather_eq _ _ _ _ _ fun a => ?_
  match a with
  | ⟨0, _⟩ =>
    have hsi : (tableDims N wf).siIdx (ix3 b s e) ⟨0, Nat.zero_lt_one⟩ = ix3 b s 0 := by
      funext a; refine Fin.ext ?_
      match a with
      | ⟨0, _⟩ => rfl
      | ⟨1, _⟩ => rfl
      | ⟨2, _⟩ => rfl
    show min (idx ((tableDims N wf).siIdx (ix3 b s e) ⟨0, Nat.zero_lt_one⟩)).toInt.toNat (N - 1) + 0 + 0 = r.val
    rw [hsi, hr, word_toNat r.val N r.isLt hN]
    rfl
  | ⟨1, _⟩ =>
    show 0 + 0 + e.val = e.val
    omega

section
variable (V0 : Valuation τ sig (Elt Ideal)) (ts : Fin 16 → Fin 512 → Times)
  (hts : ∀ b s k, (V0 (Proc.devRef .tc main_arg1) : IVec S16x512x3 32) (ix3 b s k) = BitVec.ofNat 32 (ts b s k).val)

include hts

/-- The hours, as the gather reads them. -/
theorem call0_apply (b : Fin 16) (s : Fin 512) : (res_main_call0_v5 V0 : IVec S16x512x1 32) (ix3 b s 0) = BitVec.ofNat 32 (ts b s 0).val := by
  pointwise [res_main_call0_v5, res_main_v5, hts]
  generalize ts b s 0 = t
  revert t
  decide

/-- The weekdays, as the gather reads them. -/
theorem call1_apply (b : Fin 16) (s : Fin 512) : (res_main_call1_v5 V0 : IVec S16x512x1 32) (ix3 b s 0) = BitVec.ofNat 32 (ts b s 1).val := by
  pointwise [res_main_call1_v5, res_main_v8, hts]
  generalize ts b s 1 = t
  revert t
  decide

/-- The months, as the gather reads them. -/
theorem call2_apply (b : Fin 16) (s : Fin 512) : (res_main_call2_v5 V0 : IVec S16x512x1 32) (ix3 b s 0) = BitVec.ofNat 32 (ts b s 2).val := by
  pointwise [res_main_call2_v5, res_main_v11, hts]
  generalize ts b s 2 = t
  revert t
  decide

omit hts in
/-- A sequence step's mask is set where its index lies in the table. -/
theorem mask_apply (idx : IVec S16x512x1 32) (n : ℕ) (hn : n = 23 ∨ n = 6 ∨ n = 11) (t : Fin (n + 1)) (b : Fin 16) (s : Fin 512) (e : Fin 1024) (h : idx (ix3 b s 0) = BitVec.ofNat 32 t.val) :
    broadcastInDim S16x512x1024 ![0, 1] bcast_S16x512_S16x512x1024_0_1 (Host.reduce IntOp.andi (andi (cmpi .sge idx (broadcastInDim S16x512x1 ![] bcast_S_S16x512x1 (constantI S_ 32 0#32))) (cmpi .sle idx (broadcastInDim S16x512x1 ![0, 1, 2] bcast_S1x1x1_S16x512x1_0_1_2 (broadcastInDim S1x1x1 ![2] bcast_S1_S1x1x1_2 (constantI S1 32 (BitVec.ofNat 32 n)))))) (constantI S_ 1 1#1) reducesTo_S16x512x1_S16x512_d2 h_S_) (ix3 b s e) = 1#1 := by
  pointwise
  rw [show (Finset.univ : Finset (Fin 1)) = {0} from rfl, Finset.fold_singleton, h]
  clear h
  rcases hn with rfl | rfl | rfl <;> revert t <;> decide

end

section
variable (V0 : Valuation τ sig (Elt Ideal)) (ts : Fin 16 → Fin 512 → Times)
  (hts : ∀ b s k, (V0 (Proc.devRef .tc main_arg1) : IVec S16x512x3 32) (ix3 b s k) = BitVec.ofNat 32 (ts b s k).val)

/-- The layer's parameters, as the arguments give them. -/
def params : Params := argParams (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))

/-- The sequences of the batch. -/
def rows : Fin 16 → Fin 512 → Fin 32 → EReal := argRows (V0 (Proc.devRef .tc main_arg0))

include hts in
/-- The reference's embedding. -/
theorem emb_apply (b : Fin 16) (s : Fin 512) (e : Fin 1024) : (res_main_v18 V0 : FVec Ideal S16x512x1024 .f32) (ix3 b s e) = (params V0).emb (rows V0 b) (ts b) s e := by
  unfold res_main_v18
  refine congrArg₂ (· + ·) (congrArg₂ (· + ·) (congrArg₂ (· + ·) ?_ ?_) ?_) (congrArg₂ (· + ·) (congrArg₂ (· + ·) ?_ ?_) ?_)
  · pointwise
    rfl
  · pointwise
    rfl
  · pointwise
    rfl
  · refine (congrArg (fun m => Scalar.select m _ _) (mask_apply _ 23 (by decide) (ts b s 0) b s e (call0_apply V0 ts hts b s))).trans ?_
    exact table_gather 24 (by decide) _ _ _ b s e (ts b s 0) (call0_apply V0 ts hts b s)
  · refine (congrArg (fun m => Scalar.select m _ _) (mask_apply _ 6 (by decide) (ts b s 1) b s e (call1_apply V0 ts hts b s))).trans ?_
    exact table_gather 7 (by decide) _ _ _ b s e (ts b s 1) (call1_apply V0 ts hts b s)
  · refine (congrArg (fun m => Scalar.select m _ _) (mask_apply _ 11 (by decide) (ts b s 2) b s e (call2_apply V0 ts hts b s))).trans ?_
    exact table_gather 12 (by decide) _ _ _ b s e (ts b s 2) (call2_apply V0 ts hts b s)

/-- What the reference's projections read. -/
theorem hidden_apply (he : ∀ b s e, (res_main_v18 V0 : FVec Ideal S16x512x1024 .f32) (ix3 b s e) = (params V0).emb (rows V0 b) (ts b) s e) (b : Fin 16) (s : Fin 512) (e : Fin 1024) :
    (res_main_v39 V0 : FVec Ideal S16x512x1024 .f32) (ix3 b s e) = (params V0).hidden (rows V0 b) (ts b) s e := by
  have hc : (res_main_v38 V0 : FVec Ideal S16x512x1024 .f32) (ix3 b s e) = conv ((params V0).emb (rows V0 b) (ts b)) (params V0).convW (params V0).convB s e := by
    pointwise [res_main_v38, he]
    rfl
  pointwise [res_main_v39, hc]
  unfold Params.hidden elu
  split
  · rfl
  · rfl

/-- The reference's queries. -/
theorem q_apply (he : ∀ b s e, (res_main_v39 V0 : FVec Ideal S16x512x1024 .f32) (ix3 b s e) = (params V0).hidden (rows V0 b) (ts b) s e) (b h : Fin 16) (s : Fin 512) (d : Fin 64) :
    (res_main_v45 V0 : FVec Ideal S16x16x512x64 .f32) (ix4 b h s d) = cols h ((params V0).q (rows V0 b) (ts b)) s d := by
  pointwise [res_main_v45, he]
  simp only [cols, Nat.mul_comm 64]
  rfl

/-- The reference's keys. -/
theorem k_apply (he : ∀ b s e, (res_main_v39 V0 : FVec Ideal S16x512x1024 .f32) (ix3 b s e) = (params V0).hidden (rows V0 b) (ts b) s e) (b h : Fin 16) (s : Fin 512) (d : Fin 64) :
    (res_main_v51 V0 : FVec Ideal S16x16x512x64 .f32) (ix4 b h s d) = cols h ((params V0).k (rows V0 b) (ts b)) s d := by
  pointwise [res_main_v51, he]
  simp only [cols, Nat.mul_comm 64]
  rfl

/-- The reference's values. -/
theorem v_apply (he : ∀ b s e, (res_main_v39 V0 : FVec Ideal S16x512x1024 .f32) (ix3 b s e) = (params V0).hidden (rows V0 b) (ts b) s e) (b h : Fin 16) (s : Fin 512) (d : Fin 64) :
    (res_main_v57 V0 : FVec Ideal S16x16x512x64 .f32) (ix4 b h s d) = cols h ((params V0).v (rows V0 b) (ts b)) s d := by
  pointwise [res_main_v57, he]
  simp only [cols, Nat.mul_comm 64]
  rfl

end

end Cert.ReferenceIdeal.Rows

end
-- ==== Proof.Table.lean ====
/- The reference's sample table, a permutation of the keys. -/
module

public import proofs.«01_k».proof.Proof.Gen.ReferenceIdeal.Run

@[expose] public section

set_option maxRecDepth 16384

noncomputable section

namespace Cert.ReferenceIdeal.Rows

open Cert.ReferenceIdeal
open Idealize.ShloMosaic Idealize.ShloMosaic.TcCoe Idealize.ShloMosaic.Tactic Idealize.SL.Sem

/-! ## The sample table -/

/-- The sample's entries are places of keys. -/
theorem table_lt : ∀ n : Fin 512, (lit0 n).toNat < 512 := by decide +kernel

/-- The order in which the reference samples the keys. -/
def order (n : Fin 512) : Fin 512 := ⟨(lit0 n).toNat, table_lt n⟩

/-- The sample lists no key twice. -/
theorem order_inj : Function.Injective order := by
  have h : ∀ n : Fin 512, ∃ k : Fin 512, order k = n := by decide +kernel
  exact Finite.injective_iff_surjective.2 h

/-- The sample lists every key once. -/
theorem order_bijective : Function.Bijective order := Finite.injective_iff_bijective.1 order_inj

end Cert.ReferenceIdeal.Rows

end
-- ==== Proof.RefMeasure.lean ====
/- The reference's sparsity measure at an index: the keys in the order of the sample table, which is a permutation. -/
module

public import proofs.«01_k».proof.Proof.RefRows
public import proofs.«01_k».proof.Proof.Table

@[expose] public section

set_option maxRecDepth 16384

noncomputable section

namespace Cert.ReferenceIdeal.Rows

open Cert.ReferenceIdeal Cert.ReferenceIdeal.Gen Cert.ReferenceIdeal.Value Cert.Sparse
open Idealize.ShloMosaic Idealize.ShloMosaic.TcCoe Idealize.ShloMosaic.Tactic Idealize.SL.Sem

/-- The keys' rows in the order that one index per row chooses. -/
theorem key_gather {α : Type} (x : S16x16x512x64.Idx → α) (idx : IVec S512x1 32) (b h : Fin 16) (s : Fin 512) (d : Fin 64)
    (r : Fin 512) (hr : idx (ix2 s 0) = BitVec.ofNat 32 r.val) :
    Host.gather gather_S16x16x512x64_S512x1_S16x16x512x64_013_2_n_n_2_1_1616164 x idx (ix4 b h s d) = x (ix4 b h r d) := by
  refine gather_eq _ _ _ _ _ fun a => ?_
  match a with
  | ⟨0, _⟩ => show 0 + 0 + b.val = b.val; omega
  | ⟨1, _⟩ => show 0 + 0 + h.val = h.val; omega
  | ⟨2, _⟩ =>
    have hsi : (gather_S16x16x512x64_S512x1_S16x16x512x64_013_2_n_n_2_1_1616164).siIdx (ix4 b h s d) ⟨0, Nat.zero_lt_one⟩ = ix2 s 0 := by
      funext a; refine Fin.ext ?_
      match a with
      | ⟨0, _⟩ => rfl
      | ⟨1, _⟩ => rfl
    show min (idx ((gather_S16x16x512x64_S512x1_S16x16x512x64_013_2_n_n_2_1_1616164).siIdx (ix4 b h s d) ⟨0, Nat.zero_lt_one⟩)).toInt.toNat (512 - 1) + 0 + 0 = r.val
    rw [hsi, hr, word_toNat r.val 512 r.isLt le_rfl]
    rfl
  | ⟨3, _⟩ => show 0 + 0 + d.val = d.val; omega

section
variable (V0 : Valuation τ sig (Elt Ideal)) (q k : Fin 16 → Fin 16 → Rows)
  (hq : ∀ b h s d, (res_main_v45 V0 : FVec Ideal S16x16x512x64 .f32) (ix4 b h s d) = q b h s d)
  (hk : ∀ b h s d, (res_main_v51 V0 : FVec Ideal S16x16x512x64 .f32) (ix4 b h s d) = k b h s d)

/-- The literal for minus infinity. -/
theorem negInf : Ideal.ofBits .f32 0xFF800000#32 = ⊥ := by
  simp [Ideal.ofBits, Ideal.ieee]

omit V0 in
/-- A difference at an index. -/
theorem subf_at {t : Shape} (x y : FVec Ideal t .f32) (i : t.Idx) : subf x y i = x i - y i := rfl

omit V0 in
/-- The greatest entry of a row of scores. -/
theorem max_apply (x : FVec Ideal S16x16x512x512 .f32) (b h : Fin 16) (s : Fin 512) :
    Host.reduce FloatOps.maximumf x (constant S_ .f32 0xFF800000#32) reducesTo_S16x16x512x512_S16x16x512_d3 h_S_ (ix3 b h s) = top fun n => x (ix4 b h s n) := by
  refine (Host.reduce_eq_fold_single (max : EReal → EReal → EReal) x _ reducesTo_S16x16x512x512_S16x16x512_d3 (by decide) h_S_ _).trans ?_
  unfold top
  refine congrArg₂ (fun i f => Finset.fold max i f Finset.univ) negInf (funext fun n => congrArg x (funext fun a => ?_))
  match a with
  | ⟨0, _⟩ => rfl
  | ⟨1, _⟩ => rfl
  | ⟨2, _⟩ => rfl
  | ⟨3, _⟩ => rfl

omit V0 in
/-- The mean of a row of scores. -/
theorem mean_apply (x : FVec Ideal S16x16x512x512 .f32) (b h : Fin 16) (s : Fin 512) :
    Host.divf (Host.reduceAdd x (constant S_ .f32 0x00000000#32) reducesTo_S16x16x512x512_S16x16x512_d3 h_S_) (broadcastInDim S16x16x512 ![] bcast_S_S16x16x512 (constant S_ .f32 0x44000000#32)) (ix3 b h s)
      = Ideal.div (∑ n, x (ix4 b h s n)) ((512 : ℝ) : EReal) := by
  pointwise
  congr 1
  simp [Ideal.ofBits, Ideal.ieee, -EReal.coe_mul]
  norm_num

/-- The sampled keys' places, as the gather reads them. -/
theorem index_apply (n : Fin 512) : (broadcastInDim S512x1 ![0] bcast_S512_S512x1_0 (select (constantI S512 1 0#1) (addi (res_main_c V0 : IVec S512 32) (broadcastInDim S512 ![] bcast_S_S512 (constantI S_ 32 512#32))) (res_main_c V0 : IVec S512 32)) : IVec S512x1 32) (ix2 n 0) = BitVec.ofNat 32 (order n).val := by
  have hn : S512.rowMajor (ix1 n) = n := by
    refine Fin.ext ?_
    exact Shape.rowMajor_val_one _
  have hl : (res_main_c V0 : IVec S512 32) (ix1 n) = lit0 n := congrArg lit0 hn
  refine Eq.trans ?_ (show lit0 n = BitVec.ofNat 32 (lit0 n).toNat from (BitVec.ofNat_toNat 32 _ ▸ (BitVec.setWidth_eq _).symm))
  refine Eq.trans ?_ hl
  generalize (res_main_c V0 : IVec S512 32) = y
  pointwise

include hq hk

omit hq hk in
omit V0 in
/-- Scores: products of rows. -/
theorem scores_apply (x y : FVec Ideal S16x16x512x64 .f32) (b h : Fin 16) (s n : Fin 512) :
    Host.dotGeneral dot_S16x16x512x64_S16x16x512x64_S16x16x512x512_3_3_2_2_01_01 none x y (ix4 b h s n) = ∑ d, x (ix4 b h s d) * y (ix4 b h n d) := by
  pointwise

/-- The queries' scores on the sampled keys. -/
theorem sampled_apply (b h : Fin 16) (s n : Fin 512) : (res_main_v63 V0 : FVec Ideal S16x16x512x512 .f32) (ix4 b h s n) = ∑ d, q b h s d * k b h (order n) d := by
  refine (scores_apply _ _ b h s n).trans (Finset.sum_congr rfl fun d _ => congrArg₂ (· * ·) (hq b h s d) ?_)
  exact (key_gather _ _ b h n d (order n) (index_apply V0 n)).trans (hk b h (order n) d)

omit hq hk in
omit V0 in
/-- The measure of a row of scores. -/
theorem measured_apply (x : FVec Ideal S16x16x512x512 .f32) (b h : Fin 16) (s : Fin 512) (f : Fin 512 → EReal) (hf : ∀ n, x (ix4 b h s n) = f n) :
    subf (Host.reduce FloatOps.maximumf x (constant S_ .f32 0xFF800000#32) reducesTo_S16x16x512x512_S16x16x512_d3 h_S_) (Host.divf (Host.reduceAdd x (constant S_ .f32 0x00000000#32) reducesTo_S16x16x512x512_S16x16x512_d3 h_S_) (broadcastInDim S16x16x512 ![] bcast_S_S16x16x512 (constant S_ .f32 0x44000000#32))) (ix3 b h s)
      = top f - Ideal.div (∑ n, f n) ((512 : ℝ) : EReal) := by
  rw [subf_at, max_apply, mean_apply]
  simp only [hf]

/-- The queries' measures, the sample listing every key once. -/
theorem measure_apply (b h : Fin 16) (s : Fin 512) : (res_main_v68 V0 : FVec Ideal S16x16x512 .f32) (ix3 b h s) = measureOn id (q b h) (k b h) s := by
  rw [← measureOn_eq order order_bijective]
  exact measured_apply (res_main_v63 V0) b h s (fun n => ∑ d, q b h s d * k b h (order n) d) (fun n => sampled_apply V0 q k hq hk b h s n)

end

end Cert.ReferenceIdeal.Rows

end
-- ==== Proof.Ranking.lean ====
/- The sort behind the greatest entries of a row: the order it puts the entries in, and what a top-k of a table of rows gives at an index. -/
module

public import proofs.«01_k».proof.Proof.Head
public import Idealize.ShloMosaic.Lib.Pointwise
public import Idealize.ShloMosaic.Lib.SortFacts

@[expose] public section

set_option maxRecDepth 16384

noncomputable section

namespace Cert.Sparse

open Idealize.ShloMosaic

/-- The entry that a descending sort puts at place `k`. -/
def ranking (f : Fin 512 → EReal) : Fin 512 → Fin 512 := sortedFrom fun k k' => decide (f k' < f k)

/-- The ranking lists every row once. -/
theorem ranking_bijective (f : Fin 512 → EReal) : Function.Bijective (ranking f) :=
  ⟨sortedFrom_injective _, sortedFrom_surjective _⟩

/-- The comparison that orders the top values is that of the extended reals. -/
theorem before_iff (x y : EReal) : (FloatOps.cmpfTotal (F := Ideal) (φ := .f32) .gt x y == 1#1) = decide (y < x) := by
  show (BitVec.ofBool (decide (y < x)) == 1#1) = _
  by_cases h : y < x <;> simp [h]

/-- No entry comes after a smaller one. -/
theorem ranking_anti (f : Fin 512 → EReal) (a b : Fin 512) (h : a < b) : ¬ f (ranking f a) < f (ranking f b) := by
  have hn := sortedFrom_noInversion (fun k k' => decide (f k' < f k)) (fun k k' => decide (f k' < f k))
    (fun a b h => decide_eq_false (lt_asymm (of_decide_eq_true h))) (fun _ _ h => h)
    (fun a b c h h' => decide_eq_false (not_lt.2 ((not_lt.1 (of_decide_eq_false h)).trans (not_lt.1 (of_decide_eq_false h'))))) a b h
  exact of_decide_eq_false hn

section
variable (K : ℕ) (hK : K ≤ 512) (x : FVec Ideal ⟨3, ![16, 16, 512]⟩ .f32)
  (hs : Shape.Slices ⟨3, ![16, 16, 512]⟩ (fun _ => 0) ⟨3, ![16, 16, K]⟩) (b h : Fin 16) (a : Fin K)

/-- An index with its last coordinate replaced. -/
theorem along_last (i k : Fin 512) : Shape.Idx.along (s := ⟨3, ![16, 16, 512]⟩) (ix3 b h i) 2 k = ix3 b h k := by
  funext a
  match a with
  | ⟨0, _⟩ => rfl
  | ⟨1, _⟩ => rfl
  | ⟨2, _⟩ => rfl

/-- Where an entry of the slice lies in the row. -/
theorem slice_index (y : Shape.Idx ⟨3, ![16, 16, 512]⟩ → BitVec 32) : extractStridedSlice ⟨3, ![16, 16, K]⟩ (fun _ => 0) y hs (ix3 b h a) = y (ix3 b h ⟨a.val, by omega⟩) := by
  refine congrArg y (funext fun k => Fin.ext ?_)
  match k with
  | ⟨0, _⟩ => exact Nat.zero_add _
  | ⟨1, _⟩ => exact Nat.zero_add _
  | ⟨2, _⟩ => exact Nat.zero_add _

/-- The first values of a sorted row. -/
theorem slice_value (y : Shape.Idx ⟨3, ![16, 16, 512]⟩ → EReal) : extractStridedSlice ⟨3, ![16, 16, K]⟩ (fun _ => 0) y hs (ix3 b h a) = y (ix3 b h ⟨a.val, by omega⟩) := by
  refine congrArg y (funext fun k => Fin.ext ?_)
  match k with
  | ⟨0, _⟩ => exact Nat.zero_add _
  | ⟨1, _⟩ => exact Nat.zero_add _
  | ⟨2, _⟩ => exact Nat.zero_add _

/-- The place that the sort of row `(b, h)` reads for place `i`. -/
theorem sorted_place (i : Fin 512) :
    sortedFrom (fun k k' => FloatOps.cmpfTotal (F := Ideal) (φ := .f32) .gt (x (Shape.Idx.along (s := ⟨3, ![16, 16, 512]⟩) (ix3 b h i) 2 k)) (x (Shape.Idx.along (s := ⟨3, ![16, 16, 512]⟩) (ix3 b h i) 2 k')) == 1#1) i
      = ranking (fun i => x (ix3 b h i)) i := by
  unfold ranking
  refine congrArg (fun B => sortedFrom B i) (funext fun k => funext fun k' => ?_)
  rw [before_iff]
  exact congrArg₂ (fun y z : EReal => decide (y < z)) (congrArg x (along_last b h i k')) (congrArg x (along_last b h i k))

/-- What the sort of row `(b, h)` carries along. -/
theorem sort_carried (y : Shape.Idx ⟨3, ![16, 16, 512]⟩ → BitVec 32) (i : Fin 512) :
    (Host.sort2 ⟨3, ![16, 16, 512]⟩ 2 (fun l r => FloatOps.cmpfTotal (F := Ideal) (φ := .f32) .gt l.1 r.1) x y).2 (ix3 b h i)
      = y (ix3 b h (ranking (fun i => x (ix3 b h i)) i)) := by
  refine Eq.trans ?_ (congrArg (fun k => y (ix3 b h k)) (sorted_place x b h i))
  exact congrArg y (along_last b h _ _)

/-- The greatest entries of row `(b, h)`. -/
theorem topK_value : (Host.topK ⟨3, ![16, 16, K]⟩ 2 (FloatOps.cmpfTotal .gt) x hs).1 (ix3 b h a)
    = x (ix3 b h (ranking (fun i => x (ix3 b h i)) ⟨a.val, by omega⟩)) := by
  show extractStridedSlice ⟨3, ![16, 16, K]⟩ (fun _ => 0) (Host.sort2 ⟨3, ![16, 16, 512]⟩ 2 (fun l r => FloatOps.cmpfTotal (F := Ideal) (φ := .f32) .gt l.1 r.1) x
    (fun i => if hd : 2 < 3 then iotaInDim ⟨3, ![16, 16, 512]⟩ 32 ⟨2, hd⟩ i else 0#32)).1 hs (ix3 b h a) = _
  refine (slice_value K hK hs b h a _).trans ?_
  refine Eq.trans ?_ (congrArg (fun k => x (ix3 b h k)) (sorted_place x b h ⟨a.val, by omega⟩))
  exact congrArg x (along_last b h _ _)

/-- The places of the greatest entries of row `(b, h)`. -/
theorem topK_index : (Host.topK ⟨3, ![16, 16, K]⟩ 2 (FloatOps.cmpfTotal .gt) x hs).2 (ix3 b h a)
    = BitVec.ofNat 32 (ranking (fun i => x (ix3 b h i)) ⟨a.val, by omega⟩).val := by
  show extractStridedSlice ⟨3, ![16, 16, K]⟩ (fun _ => 0) (Host.sort2 ⟨3, ![16, 16, 512]⟩ 2 (fun l r => FloatOps.cmpfTotal (F := Ideal) (φ := .f32) .gt l.1 r.1) x
    (fun i => if hd : 2 < 3 then iotaInDim ⟨3, ![16, 16, 512]⟩ 32 ⟨2, hd⟩ i else 0#32)).2 hs (ix3 b h a) = _
  refine (slice_index K hK hs b h a _).trans ?_
  refine (sort_carried x b h _ _).trans ?_
  rfl

end

end Cert.Sparse

end
-- ==== Proof.RefAttend.lean ====
/- The reference's attention of the chosen queries at an index. -/
module

public import proofs.«01_k».proof.Proof.RefMeasure
public import proofs.«01_k».proof.Proof.Ranking

@[expose] public section

set_option maxRecDepth 16384

noncomputable section

namespace Cert.ReferenceIdeal.Rows

open Cert.ReferenceIdeal Cert.ReferenceIdeal.Gen Cert.ReferenceIdeal.Value Cert.Sparse
open Idealize.ShloMosaic Idealize.ShloMosaic.TcCoe Idealize.ShloMosaic.Tactic Idealize.SL.Sem

/-! ## Words -/

/-- A place that is not negative is not wrapped. -/
theorem wrap_word : ∀ k : Fin 512, IntOp.cmpi .slt (BitVec.ofNat 32 k.val) 0#32 = 0#1 := by decide +kernel

/-- A place lies in the range that the fill mode asks for. -/
theorem range_word : ∀ k : Fin 512, IntOp.andi (IntOp.andi (IntOp.cmpi .sge (BitVec.ofNat 32 k.val) 0#32) (IntOp.cmpi .sle (BitVec.ofNat 32 k.val) 511#32)) 1#1 = 1#1 := by
  decide +kernel

/-! ## The chosen queries -/

/-- The queries' rows that one index per head and place chooses. -/
theorem query_gather {α : Type} (x : S16x16x512x64.Idx → α) (idx : IVec S16x16x31x1 32) (b h : Fin 16) (a : Fin 31) (d : Fin 64)
    (r : Fin 512) (hr : idx (ix4 b h a 0) = BitVec.ofNat 32 r.val) :
    Host.gather gather_S16x16x512x64_S16x16x31x1_S16x16x31x64_3_2_01_01_2_3_11164 x idx (ix4 b h a d) = x (ix4 b h r d) := by
  refine gather_eq _ _ _ _ _ fun k => ?_
  match k with
  | ⟨0, _⟩ => show 0 + b.val + 0 = b.val; omega
  | ⟨1, _⟩ => show 0 + h.val + 0 = h.val; omega
  | ⟨2, _⟩ =>
    have hsi : (gather_S16x16x512x64_S16x16x31x1_S16x16x31x64_3_2_01_01_2_3_11164).siIdx (ix4 b h a d) ⟨0, Nat.zero_lt_one⟩ = ix4 b h a 0 := by
      funext k; refine Fin.ext ?_
      match k with
      | ⟨0, _⟩ => rfl
      | ⟨1, _⟩ => rfl
      | ⟨2, _⟩ => rfl
      | ⟨3, _⟩ => rfl
    show min (idx ((gather_S16x16x512x64_S16x16x31x1_S16x16x31x64_3_2_01_01_2_3_11164).siIdx (ix4 b h a d) ⟨0, Nat.zero_lt_one⟩)).toInt.toNat (512 - 1) + 0 + 0 = r.val
    rw [hsi, hr, word_toNat r.val 512 r.isLt le_rfl]
    rfl
  | ⟨3, _⟩ => show 0 + 0 + d.val = d.val; omega

/-- A chosen query's mask is set. -/
theorem chosen_mask (idx : IVec S16x16x31x1 32) (b h : Fin 16) (a : Fin 31) (d : Fin 64) (r : Fin 512) (hr : idx (ix4 b h a 0) = BitVec.ofNat 32 r.val) :
    broadcastInDim S16x16x31x64 ![0, 1, 2] bcast_S16x16x31_S16x16x31x64_0_1_2 (Host.reduce IntOp.andi (andi (cmpi .sge idx (broadcastInDim S16x16x31x1 ![] bcast_S_S16x16x31x1 (constantI S_ 32 0#32))) (cmpi .sle idx (broadcastInDim S16x16x31x1 ![0, 1, 2, 3] bcast_S1x1x1x1_S16x16x31x1_0_1_2_3 (broadcastInDim S1x1x1x1 ![3] bcast_S1_S1x1x1x1_3 (constantI S1 32 511#32))))) (constantI S_ 1 1#1) reducesTo_S16x16x31x1_S16x16x31_d3 h_S_) (ix4 b h a d) = 1#1 := by
  pointwise
  rw [show (Finset.univ : Finset (Fin 1)) = {0} from rfl, Finset.fold_singleton, hr]
  exact range_word r

/-- The scores of chosen queries. -/
theorem chosen_scores (x : FVec Ideal S16x16x31x64 .f32) (y : FVec Ideal S16x16x512x64 .f32) (b h : Fin 16) (a : Fin 31) (n : Fin 512) :
    Host.divf (Host.dotGeneral dot_S16x16x31x64_S16x16x512x64_S16x16x31x512_3_3_2_2_01_01 none x y) (broadcastInDim S16x16x31x512 ![] bcast_S_S16x16x31x512 (Host.sqrt (constant S_ .f32 0x42800000#32))) (ix4 b h a n)
      = (∑ d, x (ix4 b h a d) * y (ix4 b h n d)) * ((1 / 8 : ℝ) : EReal) := by
  have h64 : Ideal.sqrt (Ideal.ofBits .f32 0x42800000#32) = ((8 : ℝ) : EReal) := by
    rw [show Ideal.ofBits .f32 0x42800000#32 = ((64 : ℝ) : EReal) by simp [Ideal.ofBits, Ideal.ieee, -EReal.coe_mul]; norm_num, Ideal.sqrt_coe, if_neg (by norm_num), show (64 : ℝ) = 8 * 8 by norm_num, Real.sqrt_mul_self (by norm_num)]
  pointwise
  exact (congrArg (Ideal.div _) h64).trans (Ideal.div_coe (by norm_num) _)

/-- The greatest of a chosen query's scores. -/
theorem chosen_max (x : FVec Ideal S16x16x31x512 .f32) (b h : Fin 16) (a : Fin 31) :
    Host.reduce FloatOps.maximumf x (constant S_ .f32 0xFF800000#32) reducesTo_S16x16x31x512_S16x16x31_d3 h_S_ (ix3 b h a) = top fun n => x (ix4 b h a n) := by
  refine (Host.reduce_eq_fold_single (max : EReal → EReal → EReal) x _ reducesTo_S16x16x31x512_S16x16x31_d3 (by decide) h_S_ _).trans ?_
  unfold top
  refine congrArg₂ (fun i f => Finset.fold max i f Finset.univ) negInf (funext fun n => congrArg x (funext fun a => ?_))
  match a with
  | ⟨0, _⟩ => rfl
  | ⟨1, _⟩ => rfl
  | ⟨2, _⟩ => rfl
  | ⟨3, _⟩ => rfl

/-- The exponentials below a given greatest score. -/
theorem weights_below (x : FVec Ideal S16x16x31x512 .f32) (y : FVec Ideal S16x16x31 .f32) (b h : Fin 16) (a : Fin 31) (n : Fin 512) :
    Host.exp (subf x (broadcastInDim S16x16x31x512 ![0, 1, 2, 3] bcast_S16x16x31x1_S16x16x31x512_0_1_2_3 (broadcastInDim S16x16x31x1 ![0, 1, 2] bcast_S16x16x31_S16x16x31x1_0_1_2 (maximumf (broadcastInDim S16x16x31 ![] bcast_S_S16x16x31 (constant S_ .f32 0xFF800000#32)) y)))) (ix4 b h a n)
      = Ideal.exp (x (ix4 b h a n) - y (ix3 b h a)) := by
  pointwise
  exact congrArg (fun t => Ideal.exp (x (ix4 b h a n) - t)) ((congrArg (fun t => max t (y (ix3 b h a))) negInf).trans (max_eq_right bot_le))

/-- The exponentials of chosen queries' scores. -/
theorem chosen_weights (x : FVec Ideal S16x16x31x512 .f32) (b h : Fin 16) (a : Fin 31) (n : Fin 512) :
    Host.exp (subf x (broadcastInDim S16x16x31x512 ![0, 1, 2, 3] bcast_S16x16x31x1_S16x16x31x512_0_1_2_3 (broadcastInDim S16x16x31x1 ![0, 1, 2] bcast_S16x16x31_S16x16x31x1_0_1_2 (maximumf (broadcastInDim S16x16x31 ![] bcast_S_S16x16x31 (constant S_ .f32 0xFF800000#32)) (Host.reduce FloatOps.maximumf x (constant S_ .f32 0xFF800000#32) reducesTo_S16x16x31x512_S16x16x31_d3 h_S_))))) (ix4 b h a n)
      = weight (fun n => x (ix4 b h a n)) n :=
  (weights_below x _ b h a n).trans (congrArg (fun t => Ideal.exp (x (ix4 b h a n) - t)) (chosen_max x b h a))

/-- The attention of chosen queries. -/
theorem chosen_attend (x : FVec Ideal S16x16x31x512 .f32) (y : FVec Ideal S16x16x512x64 .f32) (b h : Fin 16) (a : Fin 31) (d : Fin 64) :
    Host.dotGeneral dot_S16x16x31x512_S16x16x512x64_S16x16x31x64_3_2_2_3_01_01 none (Host.divf x (broadcastInDim S16x16x31x512 ![0, 1, 2, 3] bcast_S16x16x31x1_S16x16x31x512_0_1_2_3 (broadcastInDim S16x16x31x1 ![0, 1, 2] bcast_S16x16x31_S16x16x31x1_0_1_2 (Host.reduceAdd x (constant S_ .f32 0x00000000#32) reducesTo_S16x16x31x512_S16x16x31_d3 h_S_)))) y (ix4 b h a d)
      = ∑ n, Ideal.div (x (ix4 b h a n)) (∑ n', x (ix4 b h a n')) * y (ix4 b h n d) := by
  pointwise

/-- The mean of the values in every row. -/
theorem base_apply (x : FVec Ideal S16x16x512x64 .f32) (b h : Fin 16) (s : Fin 512) (d : Fin 64) :
    broadcastInDim S16x16x512x64 ![0, 1, 2, 3] bcast_S16x16x1x64_S16x16x512x64_0_1_2_3 (Host.divf (broadcastInDim S16x16x1x64 ![0, 1, 3] bcast_S16x16x64_S16x16x1x64_0_1_3 (Host.reduceAdd x (constant S_ .f32 0x00000000#32) reducesTo_S16x16x512x64_S16x16x64_d2 h_S_)) (broadcastInDim S16x16x1x64 ![] bcast_S_S16x16x1x64 (constant S_ .f32 0x44000000#32))) (ix4 b h s d)
      = colMean (fun n d => x (ix4 b h n d)) d := by
  unfold colMean
  pointwise
  congr 1
  simp [Ideal.ofBits, Ideal.ieee, -EReal.coe_mul]
  norm_num

section
variable (V0 : Valuation τ sig (Elt Ideal)) (q k v : Fin 16 → Fin 16 → Rows) (π : Fin 16 → Fin 16 → Fin 31 → Fin 512)
  (hq : ∀ b h s d, (res_main_v45 V0 : FVec Ideal S16x16x512x64 .f32) (ix4 b h s d) = q b h s d)
  (hk : ∀ b h s d, (res_main_v51 V0 : FVec Ideal S16x16x512x64 .f32) (ix4 b h s d) = k b h s d)
  (hv : ∀ b h s d, (res_main_v57 V0 : FVec Ideal S16x16x512x64 .f32) (ix4 b h s d) = v b h s d)
  (hπ : ∀ b h a, (res_main_indices V0 : IVec S16x16x31 32) (ix3 b h a) = BitVec.ofNat 32 (π b h a).val)

include hπ in
/-- The chosen queries' places, as the gather reads them. -/
theorem place_apply (b h : Fin 16) (a : Fin 31) : (res_main_call4_v4 V0 : IVec S16x16x31x1 32) (ix4 b h a 0) = BitVec.ofNat 32 (π b h a).val := by
  pointwise [res_main_call4_v4, res_main_v69, hπ]
  rw [wrap_word]
  rfl

include hq hk hπ

/-- The chosen queries' scores. -/
theorem score_apply (b h : Fin 16) (a : Fin 31) (n : Fin 512) : (res_main_v74 V0 : FVec Ideal S16x16x31x512 .f32) (ix4 b h a n) = score (q b h) (k b h) (π b h a) n := by
  refine (chosen_scores _ _ b h a n).trans (congrArg (· * _) (Finset.sum_congr rfl fun d _ => congrArg₂ (· * ·) ?_ (hk b h n d)))
  refine (congrArg (fun m => Scalar.select m _ _) (chosen_mask _ b h a d _ (place_apply V0 π hπ b h a))).trans ?_
  exact (query_gather _ _ b h a d _ (place_apply V0 π hπ b h a)).trans (hq b h _ d)

/-- The exponentials of the chosen queries' scores. -/
theorem weight_apply (b h : Fin 16) (a : Fin 31) (n : Fin 512) : (res_main_v81 V0 : FVec Ideal S16x16x31x512 .f32) (ix4 b h a n) = weight (score (q b h) (k b h) (π b h a)) n :=
  (chosen_weights _ b h a n).trans (congrArg (fun f => weight f n) (funext fun n => score_apply V0 q k π hq hk hπ b h a n))

include hv

/-- The chosen queries' attention. -/
theorem attend_apply (b h : Fin 16) (a : Fin 31) (d : Fin 64) :
    Host.dotGeneral (φ₁ := .f32) (φ₂ := .f32) dot_S16x16x31x512_S16x16x512x64_S16x16x31x64_3_2_2_3_01_01 none (Host.divf (res_main_v81 V0 : FVec Ideal S16x16x31x512 .f32) (broadcastInDim S16x16x31x512 ![0, 1, 2, 3] bcast_S16x16x31x1_S16x16x31x512_0_1_2_3 (broadcastInDim S16x16x31x1 ![0, 1, 2] bcast_S16x16x31_S16x16x31x1_0_1_2 (Host.reduceAdd (res_main_v81 V0 : FVec Ideal S16x16x31x512 .f32) (constant (F := Ideal) S_ .f32 0x00000000#32) reducesTo_S16x16x31x512_S16x16x31_d3 h_S_)))) (res_main_v57 V0 : FVec Ideal S16x16x512x64 .f32) (ix4 b h a d)
      = attend (q b h) (k b h) (v b h) (π b h a) d := by
  refine (chosen_attend _ _ b h a d).trans ?_
  unfold attend
  have hw := fun n => weight_apply V0 q k π hq hk hπ b h a n
  exact Finset.sum_congr rfl fun n _ => congrArg₂ (· * ·) (congrArg₂ Ideal.div (hw n) (Finset.sum_congr rfl fun n' _ => hw n')) (hv b h n d)

end

end Cert.ReferenceIdeal.Rows

end
-- ==== Proof.RefOut.lean ====
/- The reference's result at an index: the attention of a chosen query in its row, the mean of the values in the others. -/
module

public import proofs.«01_k».proof.Proof.RefAttend
public import Idealize.ShloMosaic.Lib.Routing.OpsSet
public import Idealize.ShloMosaic.Lib.Routing.OpsPair

@[expose] public section

set_option maxRecDepth 16384

noncomputable section

namespace Cert.ReferenceIdeal.Rows

open Cert.ReferenceIdeal Cert.ReferenceIdeal.Gen Cert.ReferenceIdeal.Value Cert.Sparse
open Idealize.ShloMosaic Idealize.ShloMosaic.TcCoe Idealize.ShloMosaic.Tactic Idealize.SL.Sem

/-- A small word read signed is the number it encodes. -/
theorem word_toInt (n : Nat) (h : n < 512) : (BitVec.ofNat 32 n).toInt = (n : Int) := by
  rw [BitVec.toInt_eq_toNat_of_lt (by rw [BitVec.toNat_ofNat]; omega), BitVec.toNat_ofNat, Nat.mod_eq_of_lt (by omega)]

/-- The scatter's dimensions. -/
abbrev sd : ScatterDims S16x16x512x64 S16x16x31x3 S16x16x31x64 := scatter_S16x16x512x64_S16x16x31x3_S16x16x31x64_3_012_012_3

/-- Where an update lands, of indices that name a sequence, a head and a row. -/
theorem lands (idx : IVec S16x16x31x3 32) (π : Fin 16 → Fin 16 → Fin 31 → Fin 512)
    (h0 : ∀ b h a, idx (ix4 b h a 0) = BitVec.ofNat 32 b.val) (h1 : ∀ b h a, idx (ix4 b h a 1) = BitVec.ofNat 32 h.val)
    (h2 : ∀ b h a, idx (ix4 b h a 2) = BitVec.ofNat 32 (π b h a).val)
    (b h : Fin 16) (a : Fin 31) (d : Fin 64) (b' h' : Fin 16) (s : Fin 512) (d' : Fin 64) :
    sd.resultIdx? (ix4 b h a d) idx = some (ix4 b' h' s d') ↔ b = b' ∧ h = h' ∧ π b h a = s ∧ d = d' := by
  have e : ∀ j : Fin 3, sd.siIdx (ix4 b h a d) j = ix4 b h a j := fun j => by
    funext k; refine Fin.ext ?_
    match k with
    | ⟨0, _⟩ => rfl
    | ⟨1, _⟩ => rfl
    | ⟨2, _⟩ => rfl
    | ⟨3, _⟩ => rfl
  have s0 : sd.start (ix4 b h a d) idx ⟨0, by decide⟩ = (b.val : Int) := by
    show (idx (sd.siIdx (ix4 b h a d) (0 : Fin 3))).toInt = _
    rw [e, h0, word_toInt _ (by omega)]
  have s1 : sd.start (ix4 b h a d) idx ⟨1, by decide⟩ = (h.val : Int) := by
    show (idx (sd.siIdx (ix4 b h a d) (1 : Fin 3))).toInt = _
    rw [e, h1, word_toInt _ (by omega)]
  have s2 : sd.start (ix4 b h a d) idx ⟨2, by decide⟩ = ((π b h a).val : Int) := by
    show (idx (sd.siIdx (ix4 b h a d) (2 : Fin 3))).toInt = _
    rw [e, h2, word_toInt _ (by omega)]
  have s3 : sd.start (ix4 b h a d) idx ⟨3, by decide⟩ = 0 := rfl
  have w0 : sd.window (ix4 b h a d) ⟨0, by decide⟩ = 0 := rfl
  have w1 : sd.window (ix4 b h a d) ⟨1, by decide⟩ = 0 := rfl
  have w2 : sd.window (ix4 b h a d) ⟨2, by decide⟩ = 0 := rfl
  have w3 : sd.window (ix4 b h a d) ⟨3, by decide⟩ = d.val := rfl
  rw [Routing.resultIdx?_eq_some]
  constructor
  · intro q
    have q0 := q ⟨0, by decide⟩
    have q1 := q ⟨1, by decide⟩
    have q2 := q ⟨2, by decide⟩
    have q3 := q ⟨3, by decide⟩
    rw [s0, w0] at q0; rw [s1, w1] at q1; rw [s2, w2] at q2; rw [s3, w3] at q3
    change (b.val : Int) + ((0 : Nat) : Int) = (b'.val : Int) at q0
    change (h.val : Int) + ((0 : Nat) : Int) = (h'.val : Int) at q1
    change ((π b h a).val : Int) + ((0 : Nat) : Int) = (s.val : Int) at q2
    change (0 : Int) + (d.val : Int) = (d'.val : Int) at q3
    exact ⟨Fin.ext (by omega), Fin.ext (by omega), Fin.ext (by omega), Fin.ext (by omega)⟩
  · rintro ⟨rfl, rfl, rfl, rfl⟩ k
    match k with
    | ⟨0, _⟩ => exact (congrArg₂ (fun (x : Int) (y : Nat) => x + (y : Int)) s0 w0).trans (by show (b.val : Int) + ((0 : Nat) : Int) = (b.val : Int); omega)
    | ⟨1, _⟩ => exact (congrArg₂ (fun (x : Int) (y : Nat) => x + (y : Int)) s1 w1).trans (by show (h.val : Int) + ((0 : Nat) : Int) = (h.val : Int); omega)
    | ⟨2, _⟩ => exact (congrArg₂ (fun (x : Int) (y : Nat) => x + (y : Int)) s2 w2).trans (by show ((π b h a).val : Int) + ((0 : Nat) : Int) = ((π b h a).val : Int); omega)
    | ⟨3, _⟩ => exact (congrArg₂ (fun (x : Int) (y : Nat) => x + (y : Int)) s3 w3).trans (by show (0 : Int) + (d.val : Int) = (d.val : Int); omega)

section
variable {α : Type} (x0 : S16x16x512x64.Idx → α) (upd : S16x16x31x64.Idx → α)
  (idx : IVec S16x16x31x3 32) (π : Fin 16 → Fin 16 → Fin 31 → Fin 512)
  (h0 : ∀ b h a, idx (ix4 b h a 0) = BitVec.ofNat 32 b.val) (h1 : ∀ b h a, idx (ix4 b h a 1) = BitVec.ofNat 32 h.val)
  (h2 : ∀ b h a, idx (ix4 b h a 2) = BitVec.ofNat 32 (π b h a).val)
include h0 h1 h2

/-- A chosen row holds its update. -/
theorem scatter_chosen (b h : Fin 16) (hinj : Function.Injective (π b h)) (a : Fin 31) (d : Fin 64) :
    Host.scatter sd (fun _ b => b) x0 idx upd (ix4 b h (π b h a) d) = upd (ix4 b h a d) := by
  refine Routing.scatter_set_hit _ x0 idx upd _ _ (fun k hk => ?_) (ix4 b h a d) ((lands idx π h0 h1 h2 b h a d b h _ d).2 ⟨rfl, rfl, rfl, rfl⟩)
  obtain ⟨b', h', a', d', rfl⟩ : ∃ (b' h' : Fin 16) (a' : Fin 31) (d' : Fin 64), k = ix4 b' h' a' d' := ⟨k 0, k 1, k 2, k 3, by funext i; fin_cases i <;> rfl⟩
  obtain ⟨rfl, rfl, e, rfl⟩ := (lands idx π h0 h1 h2 b' h' a' d' b h _ d).1 hk
  rw [hinj e]

/-- A row that is not chosen holds what it held. -/
theorem scatter_other (b h : Fin 16) (s : Fin 512) (hs : ∀ a, π b h a ≠ s) (d : Fin 64) :
    Host.scatter sd (fun _ b => b) x0 idx upd (ix4 b h s d) = x0 (ix4 b h s d) := by
  refine Routing.scatter_set_miss _ x0 idx upd _ (fun k hk => ?_)
  obtain ⟨b', h', a', d', rfl⟩ : ∃ (b' h' : Fin 16) (a' : Fin 31) (d' : Fin 64), k = ix4 b' h' a' d' := ⟨k 0, k 1, k 2, k 3, by funext i; fin_cases i <;> rfl⟩
  obtain ⟨rfl, rfl, e, rfl⟩ := (lands idx π h0 h1 h2 b' h' a' d' b h s d).1 hk
  exact hs a' e

end

/-- A heads' array, transposed and cast, at an index: the column's head and the column within it. -/
theorem merge_apply (x : FVec Ideal S16x16x512x64 .f32) (b : Fin 16) (s : Fin 512) (e : Fin 1024) :
    (shapeCast S16x512x1024 (transpose S16x512x16x64 [0, 2, 1, 3] x transposes_S16x16x512x64_S16x512x16x64_0_2_1_3) shapeCasts_S16x512x16x64_S16x512x1024 : FVec Ideal S16x512x1024 .f32) (ix3 b s e)
      = x (ix4 b (Params.headOf e) s (Params.colOf e)) := by
  pointwise
  rfl

section
variable (V0 : Valuation τ sig (Elt Ideal)) (π : Fin 16 → Fin 16 → Fin 31 → Fin 512)
  (hπ : ∀ b h a, (res_main_indices V0 : IVec S16x16x31 32) (ix3 b h a) = BitVec.ofNat 32 (π b h a).val)

/-- The scatter's indices. -/
def targets : IVec S16x16x31x3 32 :=
  concatenate S16x16x31x3 3 [⟨S16x16x31x1, ((broadcastInDim S16x16x31x1 ![0, 1, 2] bcast_S16x16x31_S16x16x31x1_0_1_2 (broadcastInDim S16x16x31 ![0, 1, 2] bcast_S16x1x1_S16x16x31_0_1_2 (select (cmpi .slt (res_main_v93 V0) (broadcastInDim S16x1x1 ![] bcast_S_S16x1x1 (constantI S_ 32 0#32))) (addi (res_main_v93 V0) (broadcastInDim S16x1x1 ![] bcast_S_S16x1x1 (constantI S_ 32 16#32))) (res_main_v93 V0)))))⟩, ⟨S16x16x31x1, ((broadcastInDim S16x16x31x1 ![0, 1, 2] bcast_S16x16x31_S16x16x31x1_0_1_2 (broadcastInDim S16x16x31 ![0, 1, 2] bcast_S1x16x1_S16x16x31_0_1_2 (select (cmpi .slt (res_main_v95 V0) (broadcastInDim S1x16x1 ![] bcast_S_S1x16x1 (constantI S_ 32 0#32))) (addi (res_main_v95 V0) (broadcastInDim S1x16x1 ![] bcast_S_S1x16x1 (constantI S_ 32 16#32))) (res_main_v95 V0)))))⟩, ⟨S16x16x31x1, ((broadcastInDim S16x16x31x1 ![0, 1, 2] bcast_S16x16x31_S16x16x31x1_0_1_2 (select (cmpi .slt (res_main_indices V0) (broadcastInDim S16x16x31 ![] bcast_S_S16x16x31 (constantI S_ 32 0#32))) (addi (res_main_indices V0) (broadcastInDim S16x16x31 ![] bcast_S_S16x16x31 (constantI S_ 32 512#32))) (res_main_indices V0))))⟩] concatenates_S16x16x31x1_S16x16x31x1_S16x16x31x1_S16x16x31x3_d3

omit hπ in
/-- An update's sequence. -/
theorem targets_0 (b h : Fin 16) (a : Fin 31) : targets V0 (ix4 b h a 0) = BitVec.ofNat 32 b.val := by
  pointwise [targets, res_main_v93]
  exact congrArg (fun t => Scalar.select t _ _) (wrap_word ⟨b.val, by omega⟩)

/-- An update's head. -/
theorem targets_1 (b h : Fin 16) (a : Fin 31) : targets V0 (ix4 b h a 1) = BitVec.ofNat 32 h.val := by
  pointwise [targets, res_main_v95]
  exact congrArg (fun t => Scalar.select t _ _) (wrap_word ⟨h.val, by omega⟩)

include hπ in
/-- An update's row. -/
theorem targets_2 (b h : Fin 16) (a : Fin 31) : targets V0 (ix4 b h a 2) = BitVec.ofNat 32 (π b h a).val := by
  pointwise [targets, hπ]
  exact congrArg (fun t => Scalar.select t _ _) (wrap_word (π b h a))

/-- The result of the reference. -/
def result : FVec Ideal S16x512x1024 .f32 :=
  shapeCast S16x512x1024 (transpose S16x512x16x64 [0, 2, 1, 3] (Host.scatter sd (fun _ b => b) (broadcastInDim S16x16x512x64 ![0, 1, 2, 3] bcast_S16x16x1x64_S16x16x512x64_0_1_2_3 (Host.divf (broadcastInDim S16x16x1x64 ![0, 1, 3] bcast_S16x16x64_S16x16x1x64_0_1_3 (Host.reduceAdd (res_main_v57 V0 : FVec Ideal S16x16x512x64 .f32) (constant S_ .f32 0x00000000#32) reducesTo_S16x16x512x64_S16x16x64_d2 h_S_)) (broadcastInDim S16x16x1x64 ![] bcast_S_S16x16x1x64 (constant S_ .f32 0x44000000#32)))) (targets V0) (Host.dotGeneral (φ₁ := .f32) (φ₂ := .f32) dot_S16x16x31x512_S16x16x512x64_S16x16x31x64_3_2_2_3_01_01 none (Host.divf (res_main_v81 V0 : FVec Ideal S16x16x31x512 .f32) (broadcastInDim S16x16x31x512 ![0, 1, 2, 3] bcast_S16x16x31x1_S16x16x31x512_0_1_2_3 (broadcastInDim S16x16x31x1 ![0, 1, 2] bcast_S16x16x31_S16x16x31x1_0_1_2 (Host.reduceAdd (res_main_v81 V0 : FVec Ideal S16x16x31x512 .f32) (constant S_ .f32 0x00000000#32) reducesTo_S16x16x31x512_S16x16x31_d3 h_S_)))) (res_main_v57 V0 : FVec Ideal S16x16x512x64 .f32))) transposes_S16x16x512x64_S16x512x16x64_0_2_1_3) shapeCasts_S16x512x16x64_S16x512x1024

section
variable (q k v : Fin 16 → Fin 16 → Rows)
  (hv : ∀ b h s d, (res_main_v57 V0 : FVec Ideal S16x16x512x64 .f32) (ix4 b h s d) = v b h s d)
include hv hπ

/-- The result in the row of a chosen query. -/
theorem result_chosen (hq : ∀ b h s d, (res_main_v45 V0 : FVec Ideal S16x16x512x64 .f32) (ix4 b h s d) = q b h s d)
    (hk : ∀ b h s d, (res_main_v51 V0 : FVec Ideal S16x16x512x64 .f32) (ix4 b h s d) = k b h s d)
    (b : Fin 16) (e : Fin 1024) (hinj : Function.Injective (π b (Params.headOf e))) (a : Fin 31) :
    result V0 (ix3 b (π b (Params.headOf e) a) e)
      = attend (q b (Params.headOf e)) (k b (Params.headOf e)) (v b (Params.headOf e)) (π b (Params.headOf e) a) (Params.colOf e) :=
  ((merge_apply _ b _ e).trans (scatter_chosen _ _ _ π (targets_0 V0) (targets_1 V0) (targets_2 V0 π hπ) b _ hinj a _)).trans
    (attend_apply V0 q k v π hq hk hv hπ b _ a _)

/-- The result in a row whose query is not chosen. -/
theorem result_other (b : Fin 16) (s : Fin 512) (e : Fin 1024) (hs : ∀ a, π b (Params.headOf e) a ≠ s) :
    result V0 (ix3 b s e) = colMean (v b (Params.headOf e)) (Params.colOf e) :=
  ((merge_apply _ b s e).trans (scatter_other _ _ _ π (targets_0 V0) (targets_1 V0) (targets_2 V0 π hπ) b _ s hs _)).trans
    ((base_apply _ b _ s _).trans (congrArg (fun x => colMean x (Params.colOf e)) (funext fun n => funext fun d => hv b _ n d)))

end

end

end Cert.ReferenceIdeal.Rows

end
-- ==== Proof.Pre.lean ====
/- What the precondition says, array by array. -/
module

public import proofs.«01_k».proof.Pre_precondition
public import proofs.«01_k».proof.Proof.RefMeasure
public import proofs.«01_k».proof.Proof.Ranking

@[expose] public section

set_option maxRecDepth 16384

noncomputable section

namespace Cert.Pre_precondition.Read

open Cert.Pre_precondition Cert.Sparse
open Idealize.ShloMosaic Idealize.ShloMosaic.TcCoe Idealize.ShloMosaic.Tactic Idealize.SL.Sem

variable [Facts]
variable (a0 : FVec Ideal S16x512x32 .f32) (a1 : IVec S16x512x3 32) (a2 : FVec Ideal S32x1024 .f32) (a3 : FVec Ideal S1024 .f32) (a4 : FVec Ideal S24x1024 .f32) (a5 : FVec Ideal S7x1024 .f32) (a6 : FVec Ideal S12x1024 .f32) (a7 : FVec Ideal S1x1000x1024 .f32) (a8 : FVec Ideal S3x1024x1024 .f32) (a9 : FVec Ideal S1024 .f32) (a10 : FVec Ideal S1024x1024 .f32) (a11 : FVec Ideal S1024 .f32) (a12 : FVec Ideal S1024x1024 .f32) (a13 : FVec Ideal S1024 .f32) (a14 : FVec Ideal S1024x1024 .f32) (a15 : FVec Ideal S1024 .f32)

/-- Every element of an array has an absolute value below infinity. -/
def below {s : Shape} (hb : S_.BroadcastsInDim s (![] : Fin 0 → Fin s.rank)) (x : FVec Ideal s .f32) : IVec s 1 :=
  cmpf .olt (Host.absf x) (broadcastInDim s ![] hb (constant S_ .f32 0x7F800000#32))

/-- The rows of the hours', weekdays' and months' table, as words. -/
def rowWords : IVec S3 32 := fun i => lit1 (S3.rowMajor i)

/-- Every time is a row of its table. -/
def inTables (x : IVec S16x512x3 32) : IVec S16x512x3 1 :=
  andi (cmpi .sge x (broadcastInDim S16x512x3 ![] Facts.bcast_S_S16x512x3 (constantI S_ 32 0#32)))
    (cmpi .slt x (broadcastInDim S16x512x3 ![0, 1, 2] Facts.bcast_S1x1x3_S16x512x3_0_1_2 (broadcastInDim S1x1x3 ![2] Facts.bcast_S3_S1x1x3_2 rowWords)))

/-- The first part: the times are rows of their tables. -/
theorem times_eq : (fn a0 a1 a2 a3 a4 a5 a6 a7 a8 a9 a10 a11 a12 a13 a14 a15).1 = inTables a1 := rfl

/-! ## The measures -/

/-- The two texts of the sample of the keys are one table. -/
theorem table_eq : ∀ k : Fin 512, lit0 k = Cert.ReferenceIdeal.lit0 k := by decide +kernel

/-- The measures of the queries, of the heads' rows and the sample of the keys. -/
def measures (c : IVec S512 32) (q k : FVec Ideal S16x16x512x64 .f32) : FVec Ideal S16x16x512 .f32 :=
  let z : FVec Ideal S16x16x512x512 .f32 := Host.dotGeneral dot_S16x16x512x64_S16x16x512x64_S16x16x512x512_3_3_2_2_01_01 none q
    (Host.gather gather_S16x16x512x64_S512x1_S16x16x512x64_013_2_n_n_2_1_1616164 k
      (broadcastInDim S512x1 ![0] Facts.bcast_S512_S512x1_0 (select (constantI S512 1 0#1) (addi c (broadcastInDim S512 ![] Facts.bcast_S_S512 (constantI S_ 32 512#32))) c)))
  subf (Host.reduce FloatOps.maximumf z (constant S_ .f32 0xFF800000#32) Facts.reducesTo_S16x16x512x512_S16x16x512_d3 Facts.h_S_)
    (Host.divf (Host.reduceAdd z (constant S_ .f32 0x00000000#32) Facts.reducesTo_S16x16x512x512_S16x16x512_d3 Facts.h_S_) (broadcastInDim S16x16x512 ![] Facts.bcast_S_S16x16x512 (constant S_ .f32 0x44000000#32)))

/-- Each of the first 31 measures is above the next. -/
def decreasing (x : FVec Ideal S16x16x512 .f32) : IVec S16x16x31 1 :=
  let y : FVec Ideal S16x16x32 .f32 := (Host.topK S16x16x32 2 (FloatOps.cmpfTotal .gt) x Facts.sliceFits_S16x16x512_S16x16x32).1
  cmpf .olt (extractStridedSlice S16x16x31 ![0, 0, 1] y Facts.slices_S16x16x32_S16x16x31_0_0_1) (extractStridedSlice S16x16x31 ![0, 0, 0] y Facts.slices_S16x16x32_S16x16x31_0_0_0)

/-- The second part, of what the projections read of the queries without their bias and of the bias. -/
theorem tail_eq (c : IVec S512 32) (n : IVec S3 32) (x y z : FVec Ideal S16x512x1024 .f32) : (fn_part2 a0 a1 a2 a3 a4 a5 a6 a7 a8 a9 a10 a11 a12 a13 a14 a15 c (constantI S512 1 0#1) n x y z).2.1
    = decreasing (measures c (transpose S16x16x512x64 [0, 2, 1, 3] (shapeCast S16x512x16x64 (addf y z) Facts.shapeCasts_S16x512x1024_S16x512x16x64) Facts.transposes_S16x512x16x64_S16x16x512x64_0_2_1_3)
      (transpose S16x16x512x64 [0, 2, 1, 3] (shapeCast S16x512x16x64 (addf (Host.dotGeneral dot_S16x512x1024_S1024x1024_S16x512x1024_2_0_01_1_n_n none x a12) (broadcastInDim S16x512x1024 ![0, 1, 2] Facts.bcast_S1x1x1024_S16x512x1024_0_1_2 (broadcastInDim S1x1x1024 ![2] Facts.bcast_S1024_S1x1x1024_2 a13))) Facts.shapeCasts_S16x512x1024_S16x512x16x64) Facts.transposes_S16x512x16x64_S16x16x512x64_0_2_1_3)) := rfl

section
variable (V0 : Valuation Cert.ReferenceIdeal.τ Cert.ReferenceIdeal.sig (Elt Ideal))

open Cert.ReferenceIdeal.Value in
/-- The precondition computes what the projections read as the reference does. -/
theorem head_eq : fn (F := Ideal) (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9)) (V0 (Proc.devRef .tc Cert.ReferenceIdeal.main_arg10)) (V0 (Proc.devRef .tc Cert.ReferenceIdeal.main_arg11)) (V0 (Proc.devRef .tc Cert.ReferenceIdeal.main_arg12)) (V0 (Proc.devRef .tc Cert.ReferenceIdeal.main_arg13)) (V0 (Proc.devRef .tc Cert.ReferenceIdeal.main_arg14)) (V0 (Proc.devRef .tc Cert.ReferenceIdeal.main_arg15))
    = fn_part2 (F := Ideal) (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9)) (V0 (Proc.devRef .tc Cert.ReferenceIdeal.main_arg10)) (V0 (Proc.devRef .tc Cert.ReferenceIdeal.main_arg11)) (V0 (Proc.devRef .tc Cert.ReferenceIdeal.main_arg12)) (V0 (Proc.devRef .tc Cert.ReferenceIdeal.main_arg13)) (V0 (Proc.devRef .tc Cert.ReferenceIdeal.main_arg14)) (V0 (Proc.devRef .tc Cert.ReferenceIdeal.main_arg15)) (fun i => lit0 (S512.rowMajor i)) (constantI S512 1 0#1) rowWords (res_main_v39 V0)
      (Host.dotGeneral (φ₁ := .f32) (φ₂ := .f32) dot_S16x512x1024_S1024x1024_S16x512x1024_2_0_01_1_n_n none (res_main_v39 V0 : FVec Ideal S16x512x1024 .f32) (V0 (Proc.devRef .tc Cert.ReferenceIdeal.main_arg10) : FVec Ideal S1024x1024 .f32)) (broadcastInDim S16x512x1024 ![0, 1, 2] Facts.bcast_S1x1x1024_S16x512x1024_0_1_2 (broadcastInDim S1x1x1024 ![2] Facts.bcast_S1024_S1x1x1024_2 (V0 (Proc.devRef .tc Cert.ReferenceIdeal.main_arg11)))) := rfl

open Cert.ReferenceIdeal.Value in
/-- The measures of the reference's queries and keys are the reference's. -/
theorem measures_eq : measures (res_main_c V0) (res_main_v45 V0) (res_main_v51 V0) = res_main_v68 V0 := rfl

open Cert.ReferenceIdeal.Value in
/-- The precondition's second part is of the reference's measures. -/
theorem decreasing_eq : (fn (F := Ideal) (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9)) (V0 (Proc.devRef .tc Cert.ReferenceIdeal.main_arg10)) (V0 (Proc.devRef .tc Cert.ReferenceIdeal.main_arg11)) (V0 (Proc.devRef .tc Cert.ReferenceIdeal.main_arg12)) (V0 (Proc.devRef .tc Cert.ReferenceIdeal.main_arg13)) (V0 (Proc.devRef .tc Cert.ReferenceIdeal.main_arg14)) (V0 (Proc.devRef .tc Cert.ReferenceIdeal.main_arg15))).2.1 = decreasing (res_main_v68 V0) := by
  rw [head_eq, tail_eq, ← measures_eq]
  have e : (fun i => lit0 (S512.rowMajor i)) = res_main_c (F := Ideal) V0 := funext fun i => table_eq _
  rw [e]
  rfl

end

end Cert.Pre_precondition.Read

end
-- ==== Proof.PreAt.lean ====
/- The precondition at an index. -/
module

public import proofs.«01_k».proof.Proof.Pre

@[expose] public section

set_option maxRecDepth 16384

noncomputable section

namespace Cert.Pre_precondition.Read

open Cert.Pre_precondition Cert.Sparse
open Idealize.ShloMosaic Idealize.ShloMosaic.TcCoe Idealize.ShloMosaic.Tactic Idealize.SL.Sem

variable [Facts]

omit [Facts] in
/-- A truth value whose bit is set holds. -/
theorem of_bit {b : Bool} (h : BitVec.ofBool b = 1#1) : b = true := by
  revert h; cases b <;> decide

/-- A value whose absolute value is below infinity is a real number. -/
theorem below_real {s : Shape} (hb : S_.BroadcastsInDim s (![] : Fin 0 → Fin s.rank)) (x : FVec Ideal s .f32) (h : below hb x = fun _ => 1#1) (i : s.Idx) :
    ∃ r : ℝ, x i = (r : EReal) := by
  have e := congrFun h i
  unfold below at e
  pointwise at e
  have lt : max (x i) (-(x i)) < Ideal.ofBits .f32 0x7F800000#32 := of_decide_eq_true (of_bit e)
  rw [show Ideal.ofBits .f32 0x7F800000#32 = (⊤ : EReal) by simp [Ideal.ofBits, Ideal.ieee]] at lt
  have h1 : x i ≠ ⊤ := fun q => absurd ((le_max_left _ _).trans_lt lt) (by rw [q]; exact lt_irrefl _)
  have h2 : x i ≠ ⊥ := fun q => absurd ((le_max_right _ _).trans_lt lt) (by rw [q]; exact lt_irrefl _)
  exact ⟨EReal.toReal (x i), (EReal.coe_toReal h1 h2).symm⟩

omit [Facts] in
/-- A word from 0 up to a bound. -/
theorem word_range (w : BitVec 32) (n : ℕ) (hn : n < 32) (h : IntOp.andi (IntOp.cmpi .sge w 0#32) (IntOp.cmpi .slt w (BitVec.ofNat 32 n)) = 1#1) :
    ∃ t : Fin n, w = BitVec.ofNat 32 t.val := by
  have hw : w.toNat < n := by
    unfold IntOp.andi IntOp.cmpi at h
    simp at h
    have h' := of_bit h
    rw [Bool.and_eq_true, BitVec.sle_iff_toInt_le, BitVec.slt_iff_toInt_lt] at h'
    obtain ⟨lo, hi⟩ := h'
    rw [show (0#32).toInt = 0 from rfl] at lo
    have e : (BitVec.ofNat 32 n).toInt = (n : ℤ) := by
      rw [BitVec.toInt_eq_toNat_cond, BitVec.toNat_ofNat]
      split <;> omega
    rw [e] at hi
    have := w.isLt
    rw [BitVec.toInt_eq_toNat_cond] at lo hi
    split at lo <;> split at hi <;> omega
  exact ⟨⟨w.toNat, hw⟩, by simp⟩

omit [Facts] in
/-- The words of the tables' rows. -/
theorem rowWords_apply (k : Fin 3) : rowWords (ix1 k) = BitVec.ofNat 32 (tableRows k) := by
  fin_cases k <;> rfl

/-- Times that meet the first part are rows of their tables. -/
theorem times_range (x : IVec S16x512x3 32) (h : inTables x = fun _ => 1#1)
    (b : Fin 16) (s : Fin 512) (k : Fin 3) : ∃ t : Fin (tableRows k), x (ix3 b s k) = BitVec.ofNat 32 t.val := by
  have e := congrFun h (ix3 b s k)
  unfold inTables at e
  generalize hn : rowWords = n at e
  pointwise at e
  rw [← hn, rowWords_apply] at e
  exact word_range _ _ (by fin_cases k <;> decide) e

/-- Of measures that meet the second part the first 32 in descending order strictly decrease. -/
theorem ranking_strict (x : FVec Ideal S16x16x512 .f32) (hx : decreasing x = fun _ => 1#1) (b h : Fin 16) (a a' : Fin 512) (ha : a.val + 1 = a'.val) (hl : a'.val < 32) :
    x (ix3 b h (ranking (fun i => x (ix3 b h i)) a')) < x (ix3 b h (ranking (fun i => x (ix3 b h i)) a)) := by
  have e := congrFun hx (ix3 b h (⟨a.val, by omega⟩ : Fin 31))
  unfold decreasing at e
  generalize hy : (Host.topK S16x16x32 2 (FloatOps.cmpfTotal .gt) x Facts.sliceFits_S16x16x512_S16x16x32).1 = y at e
  pointwise at e
  have lt := of_decide_eq_true (of_bit e)
  have v1 := topK_value 32 (by decide) x Facts.sliceFits_S16x16x512_S16x16x32 b h ⟨1 + a.val, by omega⟩
  have v0 := topK_value 32 (by decide) x Facts.sliceFits_S16x16x512_S16x16x32 b h ⟨a.val, by omega⟩
  have a1 : (⟨1 + a.val, by omega⟩ : Fin 512) = a' := Fin.ext (by show 1 + a.val = a'.val; omega)
  rw [hy] at v0 v1
  rw [v0, v1] at lt
  rw [← a1]
  exact lt

end Cert.Pre_precondition.Read

end
-- ==== Proof.Finite.lean ====
/- Of finite arguments every layer is finite, and a head's rows in the order of their measures are the reference's. -/
module

public import proofs.«01_k».proof.Proof.Layer
public import proofs.«01_k».proof.Proof.Ranking

@[expose] public section

noncomputable section

namespace Cert.Sparse

open Idealize.ShloMosaic

/-- A real number. -/
def IsReal (x : EReal) : Prop := ∃ r : ℝ, x = (r : EReal)

namespace IsReal

/-- A real number, read as an extended one. -/
theorem coe (r : ℝ) : IsReal (r : EReal) := ⟨r, rfl⟩

/-- Zero is real. -/
theorem zero : IsReal 0 := ⟨0, rfl⟩

/-- A sum of two reals is real. -/
theorem add {x y : EReal} : IsReal x → IsReal y → IsReal (x + y) := by
  rintro ⟨a, rfl⟩ ⟨b, rfl⟩
  exact ⟨a + b, (EReal.coe_add a b).symm⟩

/-- A product of two reals is real. -/
theorem mul {x y : EReal} : IsReal x → IsReal y → IsReal (x * y) := by
  rintro ⟨a, rfl⟩ ⟨b, rfl⟩
  exact ⟨a * b, (EReal.coe_mul a b).symm⟩

/-- A finite sum of reals is real. -/
theorem sum {ι : Type} (s : Finset ι) (f : ι → EReal) (h : ∀ i, IsReal (f i)) : IsReal (∑ i ∈ s, f i) := by
  classical
  induction s using Finset.induction_on with
  | empty => exact zero
  | insert a s ha ih => rw [Finset.sum_insert ha]; exact (h a).add ih

/-- elu of a real is real. -/
theorem elu {x : EReal} (h : IsReal x) : IsReal (elu x) := by
  unfold Sparse.elu
  split
  · exact h
  · obtain ⟨r, rfl⟩ := h
    exact ⟨Real.exp r - 1, by rw [Ideal.exp_coe, EReal.coe_sub, EReal.coe_one]⟩

/-- A linear map of real rows. -/
theorem lin {x : Seq} {W : Fin 1024 → Fin 1024 → EReal} {b : Fin 1024 → EReal} (hx : ∀ s e, IsReal (x s e)) (hW : ∀ i j, IsReal (W i j))
    (hb : ∀ e, IsReal (b e)) (s : Fin 512) (e : Fin 1024) : IsReal (lin x W b s e) :=
  (sum _ _ fun j => (hx s j).mul (hW j e)).add (hb e)

/-- The convolution of real rows. -/
theorem conv {x : Seq} {W : Fin 3 → Fin 1024 → Fin 1024 → EReal} {b : Fin 1024 → EReal} (hx : ∀ s e, IsReal (x s e)) (hW : ∀ k i j, IsReal (W k i j))
    (hb : ∀ e, IsReal (b e)) (s : Fin 512) (e : Fin 1024) : IsReal (conv x W b s e) := by
  have ha : ∀ s e, IsReal (above x s e) := fun s e => by
    unfold above; split
    · exact zero
    · exact hx _ _
  have hl : ∀ s e, IsReal (below x s e) := fun s e => by
    unfold below; split
    · exact hx _ _
    · exact zero
  exact (((sum _ _ fun j => (ha s j).mul (hW 0 j e)).add (sum _ _ fun j => (hx s j).mul (hW 1 j e))).add
    (sum _ _ fun j => (hl s j).mul (hW 2 j e))).add (hb e)

end IsReal

/-- Real parameters. -/
structure Params.Real (p : Params) : Prop where
  valW : ∀ d e, IsReal (p.valW d e)
  valB : ∀ e, IsReal (p.valB e)
  hour : ∀ r e, IsReal (p.hour r e)
  week : ∀ r e, IsReal (p.week r e)
  month : ∀ r e, IsReal (p.month r e)
  pos : ∀ s e, IsReal (p.pos s e)
  convW : ∀ k i j, IsReal (p.convW k i j)
  convB : ∀ e, IsReal (p.convB e)
  qW : ∀ i j, IsReal (p.qW i j)
  qB : ∀ e, IsReal (p.qB e)
  kW : ∀ i j, IsReal (p.kW i j)
  kB : ∀ e, IsReal (p.kB e)
  vW : ∀ i j, IsReal (p.vW i j)
  vB : ∀ e, IsReal (p.vB e)

namespace Params.Real

variable {p : Params} (hp : p.Real) {x : Fin 512 → Fin 32 → EReal} (hx : ∀ s d, IsReal (x s d)) (τ : Fin 512 → Times)
include hp hx

/-- What the projections read is real. -/
theorem hidden (s : Fin 512) (e : Fin 1024) : IsReal (p.hidden x τ s e) :=
  (IsReal.conv (fun s e => (((IsReal.sum _ _ fun d => (hx s d).mul (hp.valW d e)).add (hp.valB e)).add (hp.pos s e)).add
    (((hp.hour _ e).add (hp.week _ e)).add (hp.month _ e))) hp.convW hp.convB s e).elu

/-- The queries are real. -/
theorem q (s : Fin 512) (e : Fin 1024) : IsReal (p.q x τ s e) := IsReal.lin (hp.hidden hx τ) hp.qW hp.qB s e

/-- The keys are real. -/
theorem k (s : Fin 512) (e : Fin 1024) : IsReal (p.k x τ s e) := IsReal.lin (hp.hidden hx τ) hp.kW hp.kB s e

/-- The values are real. -/
theorem v (s : Fin 512) (e : Fin 1024) : IsReal (p.v x τ s e) := IsReal.lin (hp.hidden hx τ) hp.vW hp.vB s e

end Params.Real

/-- The kernel's head of real rows, its queries in the order of their measures, of which the first 32 strictly decrease: the first 31 queries' rows
    hold their attention, the other rows the mean of the values. -/
theorem kHead_ranked (q k v : Rows) (hq : ∀ s d, IsReal (q s d)) (hk : ∀ s d, IsReal (k s d)) (hv : ∀ s d, IsReal (v s d))
    (hs : ∀ a a' : Fin 512, a.val + 1 = a'.val → a'.val < 32 →
      measureOn id q k (ranking (measureOn id q k) a') < measureOn id q k (ranking (measureOn id q k) a))
    (a : Fin 512) (d : Fin 64) :
    kHead q k v (ranking (measureOn id q k) a) d
      = if a.val < 31 then attend q k v (ranking (measureOn id q k) a) d else colMean v d := by
  choose q' hq using hq
  choose k' hk using hk
  choose v' hv using hv
  obtain rfl : q = fun s d => ((q' s d : ℝ) : EReal) := funext fun s => funext fun d => hq s d
  obtain rfl : k = fun s d => ((k' s d : ℝ) : EReal) := funext fun s => funext fun d => hk s d
  obtain rfl : v = fun s d => ((v' s d : ℝ) : EReal) := funext fun s => funext fun d => hv s d
  exact kHead_sorted q' k' _ (ranking_bijective _) (fun a b h => ranking_anti _ a b h) hs v' a d

end Cert.Sparse

end
-- ==== Proof.Equal.lean ====
/- The reference's result is the kernel's, at every index, of arguments that meet the precondition. -/
module

public import proofs.«01_k».proof.Proof.RefOut
public import proofs.«01_k».proof.Proof.PreAt
public import proofs.«01_k».proof.Proof.Finite

@[expose] public section

set_option maxRecDepth 16384

noncomputable section

namespace Cert.ReferenceIdeal.Equal

open Cert.ReferenceIdeal Cert.ReferenceIdeal.Gen Cert.ReferenceIdeal.Value Cert.ReferenceIdeal.Rows Cert.Sparse
open Idealize.ShloMosaic Idealize.ShloMosaic.TcCoe Idealize.ShloMosaic.Tactic Idealize.SL.Sem
open Cert.Pre_precondition.Read (below_real times_range ranking_strict)

section
variable (V0 : Valuation τ sig (Elt Ideal)) (ts : Fin 16 → Fin 512 → Times)
  (hts : ∀ b s k, (V0 (Proc.devRef .tc main_arg1) : IVec S16x512x3 32) (ix3 b s k) = BitVec.ofNat 32 (ts b s k).val)

/-- A head's queries. -/
def headQ (b h : Fin 16) : Rows := cols h ((params V0).q (rows V0 b) (ts b))

/-- A head's keys. -/
def headK (b h : Fin 16) : Rows := cols h ((params V0).k (rows V0 b) (ts b))

/-- A head's values. -/
def headV (b h : Fin 16) : Rows := cols h ((params V0).v (rows V0 b) (ts b))

/-- A head's order of the queries by their measures. -/
def place (b h : Fin 16) : Fin 512 → Fin 512 := ranking (measureOn id (headQ V0 ts b h) (headK V0 ts b h))

/-- The queries that the reference chooses. -/
def chosen (b h : Fin 16) (a : Fin 31) : Fin 512 := place V0 ts b h ⟨a.val, by omega⟩

/-- The order of the queries lists every query once. -/
theorem place_bijective (b h : Fin 16) : Function.Bijective (place V0 ts b h) := ranking_bijective _

/-- The chosen queries differ. -/
theorem chosen_injective (b h : Fin 16) : Function.Injective (chosen V0 ts b h) := fun a a' e =>
  Fin.ext (Fin.mk.inj ((place_bijective V0 ts b h).1 e))

include hts

/-- The reference's queries, head by head. -/
theorem hq (b h : Fin 16) (s : Fin 512) (d : Fin 64) : (res_main_v45 V0 : FVec Ideal S16x16x512x64 .f32) (ix4 b h s d) = headQ V0 ts b h s d :=
  q_apply V0 ts (hidden_apply V0 ts (emb_apply V0 ts hts)) b h s d

/-- The reference's keys, head by head. -/
theorem hk (b h : Fin 16) (s : Fin 512) (d : Fin 64) : (res_main_v51 V0 : FVec Ideal S16x16x512x64 .f32) (ix4 b h s d) = headK V0 ts b h s d :=
  k_apply V0 ts (hidden_apply V0 ts (emb_apply V0 ts hts)) b h s d

/-- The reference's values, head by head. -/
theorem hv (b h : Fin 16) (s : Fin 512) (d : Fin 64) : (res_main_v57 V0 : FVec Ideal S16x16x512x64 .f32) (ix4 b h s d) = headV V0 ts b h s d :=
  v_apply V0 ts (hidden_apply V0 ts (emb_apply V0 ts hts)) b h s d

/-- The reference's measures, head by head. -/
theorem hm (b h : Fin 16) : (fun i => (res_main_v68 V0 : FVec Ideal S16x16x512 .f32) (ix3 b h i)) = measureOn id (headQ V0 ts b h) (headK V0 ts b h) :=
  funext fun i => measure_apply V0 (headQ V0 ts) (headK V0 ts) (hq V0 ts hts) (hk V0 ts hts) b h i

/-- The order of the queries is that of the reference's measures. -/
theorem hplace (b h : Fin 16) : place V0 ts b h = ranking fun i => (res_main_v68 V0 : FVec Ideal S16x16x512 .f32) (ix3 b h i) :=
  congrArg ranking (hm V0 ts hts b h).symm

/-- The indices that the reference's top-k gives are the chosen queries. -/
theorem hchosen (b h : Fin 16) (a : Fin 31) : (res_main_indices V0 : IVec S16x16x31 32) (ix3 b h a) = BitVec.ofNat 32 (chosen V0 ts b h a).val :=
  (topK_index 31 (by decide) (res_main_v68 V0) sliceFits_S16x16x512_S16x16x31 b h a).trans
    (congrArg (fun f : Fin 512 → Fin 512 => BitVec.ofNat 32 (f ⟨a.val, by omega⟩).val) (hplace V0 ts hts b h).symm)

/-- The reference's result, of real arguments and measures whose first 32 strictly decrease, is the kernel's. -/
theorem result_kernel [Cert.Pre_precondition.Facts] (hp : (params V0).Real) (hx : ∀ b s d, IsReal (rows V0 b s d))
    (hd : Cert.Pre_precondition.Read.decreasing (res_main_v68 V0) = fun _ => 1#1)
    (b : Fin 16) (s : Fin 512) (e : Fin 1024) :
    result V0 (ix3 b s e) = (params V0).kernel (rows V0 b) (ts b) s e := by
  have hs : ∀ a a' : Fin 512, a.val + 1 = a'.val → a'.val < 32 →
      measureOn id (headQ V0 ts b (Params.headOf e)) (headK V0 ts b (Params.headOf e)) (place V0 ts b (Params.headOf e) a')
        < measureOn id (headQ V0 ts b (Params.headOf e)) (headK V0 ts b (Params.headOf e)) (place V0 ts b (Params.headOf e) a) := fun a a' ha hl => by
    have := ranking_strict (res_main_v68 V0) hd b (Params.headOf e) a a' ha hl
    rw [← hm V0 ts hts b (Params.headOf e), hplace V0 ts hts b (Params.headOf e)]
    exact this
  obtain ⟨a, rfl⟩ := (place_bijective V0 ts b (Params.headOf e)).2 s
  have hr := kHead_ranked (headQ V0 ts b (Params.headOf e)) (headK V0 ts b (Params.headOf e)) (headV V0 ts b (Params.headOf e))
    (fun s d => hp.q (hx b) (ts b) s _) (fun s d => hp.k (hx b) (ts b) s _) (fun s d => hp.v (hx b) (ts b) s _) hs a (Params.colOf e)
  refine Eq.trans ?_ hr.symm
  split
  · rename_i ha
    exact result_chosen V0 (chosen V0 ts) (hchosen V0 ts hts) (headQ V0 ts) (headK V0 ts) (headV V0 ts) (hv V0 ts hts) (hq V0 ts hts) (hk V0 ts hts)
      b e (chosen_injective V0 ts b _) ⟨a.val, ha⟩
  · rename_i ha
    refine result_other V0 (chosen V0 ts) (hchosen V0 ts hts) (headV V0 ts) (hv V0 ts hts) b _ e fun a' q => ha ?_
    have := congrArg Fin.val ((place_bijective V0 ts b (Params.headOf e)).1 q)
    show a.val < 31
    rw [← this]
    exact a'.isLt

end

/-- The reference's result, of arguments that meet the precondition, is the kernel's. -/
theorem result_of_pre [Cert.Pre_precondition.Facts] (V0 : Valuation τ sig (Elt Ideal))
  (a0 : FVec Ideal S16x512x32 .f32) (a1 : IVec S16x512x3 32) (a2 : FVec Ideal S32x1024 .f32) (a3 : FVec Ideal S1024 .f32) (a4 : FVec Ideal S24x1024 .f32) (a5 : FVec Ideal S7x1024 .f32) (a6 : FVec Ideal S12x1024 .f32) (a7 : FVec Ideal S1x1000x1024 .f32) (a8 : FVec Ideal S3x1024x1024 .f32) (a9 : FVec Ideal S1024 .f32) (a10 : FVec Ideal S1024x1024 .f32) (a11 : FVec Ideal S1024 .f32) (a12 : FVec Ideal S1024x1024 .f32) (a13 : FVec Ideal S1024 .f32) (a14 : FVec Ideal S1024x1024 .f32) (a15 : FVec Ideal S1024 .f32)
  (h0 : (V0 (Proc.devRef .tc main_arg0) : FVec Ideal S16x512x32 .f32) = a0)
  (h1 : (V0 (Proc.devRef .tc main_arg1) : IVec S16x512x3 32) = a1)
  (h2 : (V0 (Proc.devRef .tc main_arg2) : FVec Ideal S32x1024 .f32) = a2)
  (h3 : (V0 (Proc.devRef .tc main_arg3) : FVec Ideal S1024 .f32) = a3)
  (h4 : (V0 (Proc.devRef .tc main_arg4) : FVec Ideal S24x1024 .f32) = a4)
  (h5 : (V0 (Proc.devRef .tc main_arg5) : FVec Ideal S7x1024 .f32) = a5)
  (h6 : (V0 (Proc.devRef .tc main_arg6) : FVec Ideal S12x1024 .f32) = a6)
  (h7 : (V0 (Proc.devRef .tc main_arg7) : FVec Ideal S1x1000x1024 .f32) = a7)
  (h8 : (V0 (Proc.devRef .tc main_arg8) : FVec Ideal S3x1024x1024 .f32) = a8)
  (h9 : (V0 (Proc.devRef .tc main_arg9) : FVec Ideal S1024 .f32) = a9)
  (h10 : (V0 (Proc.devRef .tc main_arg10) : FVec Ideal S1024x1024 .f32) = a10)
  (h11 : (V0 (Proc.devRef .tc main_arg11) : FVec Ideal S1024 .f32) = a11)
  (h12 : (V0 (Proc.devRef .tc main_arg12) : FVec Ideal S1024x1024 .f32) = a12)
  (h13 : (V0 (Proc.devRef .tc main_arg13) : FVec Ideal S1024 .f32) = a13)
  (h14 : (V0 (Proc.devRef .tc main_arg14) : FVec Ideal S1024x1024 .f32) = a14)
  (h15 : (V0 (Proc.devRef .tc main_arg15) : FVec Ideal S1024 .f32) = a15)
  (hpre : (Cert.Pre_precondition.fn (F := Ideal) a0 a1 a2 a3 a4 a5 a6 a7 a8 a9 a10 a11 a12 a13 a14 a15).1 = (fun _ => 1#1) ∧
    (Cert.Pre_precondition.fn (F := Ideal) a0 a1 a2 a3 a4 a5 a6 a7 a8 a9 a10 a11 a12 a13 a14 a15).2.1 = (fun _ => 1#1) ∧
    (Cert.Pre_precondition.fn (F := Ideal) a0 a1 a2 a3 a4 a5 a6 a7 a8 a9 a10 a11 a12 a13 a14 a15).2.2.1 = (fun _ => 1#1) ∧
    (Cert.Pre_precondition.fn (F := Ideal) a0 a1 a2 a3 a4 a5 a6 a7 a8 a9 a10 a11 a12 a13 a14 a15).2.2.2.1 = (fun _ => 1#1) ∧
    (Cert.Pre_precondition.fn (F := Ideal) a0 a1 a2 a3 a4 a5 a6 a7 a8 a9 a10 a11 a12 a13 a14 a15).2.2.2.2.1 = (fun _ => 1#1) ∧
    (Cert.Pre_precondition.fn (F := Ideal) a0 a1 a2 a3 a4 a5 a6 a7 a8 a9 a10 a11 a12 a13 a14 a15).2.2.2.2.2.1 = (fun _ => 1#1) ∧
    (Cert.Pre_precondition.fn (F := Ideal) a0 a1 a2 a3 a4 a5 a6 a7 a8 a9 a10 a11 a12 a13 a14 a15).2.2.2.2.2.2.1 = (fun _ => 1#1) ∧
    (Cert.Pre_precondition.fn (F := Ideal) a0 a1 a2 a3 a4 a5 a6 a7 a8 a9 a10 a11 a12 a13 a14 a15).2.2.2.2.2.2.2.1 = (fun _ => 1#1) ∧
    (Cert.Pre_precondition.fn (F := Ideal) a0 a1 a2 a3 a4 a5 a6 a7 a8 a9 a10 a11 a12 a13 a14 a15).2.2.2.2.2.2.2.2.1 = (fun _ => 1#1) ∧
    (Cert.Pre_precondition.fn (F := Ideal) a0 a1 a2 a3 a4 a5 a6 a7 a8 a9 a10 a11 a12 a13 a14 a15).2.2.2.2.2.2.2.2.2.1 = (fun _ => 1#1) ∧
    (Cert.Pre_precondition.fn (F := Ideal) a0 a1 a2 a3 a4 a5 a6 a7 a8 a9 a10 a11 a12 a13 a14 a15).2.2.2.2.2.2.2.2.2.2.1 = (fun _ => 1#1) ∧
    (Cert.Pre_precondition.fn (F := Ideal) a0 a1 a2 a3 a4 a5 a6 a7 a8 a9 a10 a11 a12 a13 a14 a15).2.2.2.2.2.2.2.2.2.2.2.1 = (fun _ => 1#1) ∧
    (Cert.Pre_precondition.fn (F := Ideal) a0 a1 a2 a3 a4 a5 a6 a7 a8 a9 a10 a11 a12 a13 a14 a15).2.2.2.2.2.2.2.2.2.2.2.2.1 = (fun _ => 1#1) ∧
    (Cert.Pre_precondition.fn (F := Ideal) a0 a1 a2 a3 a4 a5 a6 a7 a8 a9 a10 a11 a12 a13 a14 a15).2.2.2.2.2.2.2.2.2.2.2.2.2.1 = (fun _ => 1#1) ∧
    (Cert.Pre_precondition.fn (F := Ideal) a0 a1 a2 a3 a4 a5 a6 a7 a8 a9 a10 a11 a12 a13 a14 a15).2.2.2.2.2.2.2.2.2.2.2.2.2.2.1 = (fun _ => 1#1) ∧
    (Cert.Pre_precondition.fn (F := Ideal) a0 a1 a2 a3 a4 a5 a6 a7 a8 a9 a10 a11 a12 a13 a14 a15).2.2.2.2.2.2.2.2.2.2.2.2.2.2.2.1 = (fun _ => 1#1) ∧
    (Cert.Pre_precondition.fn (F := Ideal) a0 a1 a2 a3 a4 a5 a6 a7 a8 a9 a10 a11 a12 a13 a14 a15).2.2.2.2.2.2.2.2.2.2.2.2.2.2.2.2 = (fun _ => 1#1)) :
    ∃ ts : Fin 16 → Fin 512 → Times, (∀ b s k, a1 (ix3 b s k) = BitVec.ofNat 32 (ts b s k).val) ∧
      ∀ b s e, result V0 (ix3 b s e) = (argParams a2 a3 a4 a5 a6 a7 a8 a9 a10 a11 a12 a13 a14 a15).kernel (argRows a0 b) (ts b) s e := by
  subst h0; subst h1; subst h2; subst h3; subst h4; subst h5; subst h6; subst h7; subst h8; subst h9; subst h10; subst h11; subst h12; subst h13; subst h14; subst h15
  obtain ⟨times, decr, f0, f2, f3, f4, f5, f6, f7, f8, f9, f10, f11, f12, f13, f14, f15⟩ := hpre
  have hts := times_range _ times
  choose ts hts using hts
  refine ⟨ts, hts, fun b s e => ?_⟩
  have pos : ∀ (s : Fin 512) (e : Fin 1024), IsReal ((params V0).pos s e) := fun s e => by
    have h := below_real _ _ f7 (ix3 0 s e)
    pointwise at h
    exact h
  exact result_kernel V0 ts hts
    ⟨fun d e => below_real _ _ f2 (ix2 d e), fun e => below_real _ _ f3 (ix1 e), fun r e => below_real _ _ f4 (ix2 r e), fun r e => below_real _ _ f5 (ix2 r e),
      fun r e => below_real _ _ f6 (ix2 r e), pos, fun k i j => below_real _ _ f8 (ix3 k i j), fun e => below_real _ _ f9 (ix1 e),
      fun i j => below_real _ _ f10 (ix2 i j), fun e => below_real _ _ f11 (ix1 e), fun i j => below_real _ _ f12 (ix2 i j), fun e => below_real _ _ f13 (ix1 e),
      fun i j => below_real _ _ f14 (ix2 i j), fun e => below_real _ _ f15 (ix1 e)⟩
    (fun b s d => below_real _ _ f0 (ix3 b s d)) ((Cert.Pre_precondition.Read.decreasing_eq V0).symm.trans decr) b s e

end Cert.ReferenceIdeal.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_precondition
public import proofs.«01_k».proof.Proof.Blocks
public import proofs.«01_k».proof.Proof.Equal
public import Idealize.ShloMosaic.Adequacy
public import Idealize.ShloMosaic.Init

@[expose] public section

noncomputable section

namespace Cert.Proof

open Idealize.ShloMosaic

/-- The kernel's result is the reference's at every index, of arguments that meet the precondition. -/
theorem result_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (ts : Fin 16 → Fin 512 → Cert.Sparse.Times)
    (hts : ∀ b s k, (m ((c.tc : Thread Cert.KernelIdeal.nD Cert.KernelIdeal.τ).loc Cert.KernelIdeal.main_arg1) : IVec Cert.KernelIdeal.S16x512x3 32) (ix3 b s k) = BitVec.ofNat 32 (ts b s k).val)
    (h : ∀ b s e, Cert.ReferenceIdeal.Rows.result V0 (ix3 b s e)
      = (Cert.KernelIdeal.Blocks.params m c).kernel (Cert.Sparse.argRows (m ((c.tc : Thread Cert.KernelIdeal.nD Cert.KernelIdeal.τ).loc Cert.KernelIdeal.main_arg0)) b) (ts b) s e) :
    Cert.ReferenceIdeal.Rows.result V0 = (Cert.KernelIdeal.Gen.dats (F := Ideal) m 0 c).arrAt 14 Cert.KernelIdeal.cfg0.N := by
  funext i
  obtain ⟨b, s, e, rfl⟩ : ∃ (b : Fin 16) (s : Fin 512) (e : Fin 1024), i = ix3 b s e := ⟨i 0, i 1, i 2, by funext k; fin_cases k <;> rfl⟩
  exact (h b s e).trans (Cert.KernelIdeal.Blocks.result_apply m c ts hts b s e).symm

/-- On every device, memories whose arguments agree and meet the precondition have equal results. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : @Pre_KernelIdeal_precondition Cert.Pre_precondition.Gen.facts m)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Rows.result (Idealize.ShloMosaic.StableHlo.launchContents m' c) = (Cert.KernelIdeal.Gen.dats (F := Ideal) m 0 c).arrAt 14 Cert.KernelIdeal.cfg0.N := by
  obtain ⟨h0, h1, h2, h3, h4, h5, h6, h7, h8, h9, h10, h11, h12, h13, h14, h15⟩ := hagree
  obtain ⟨ts, hts, heq⟩ := @Cert.ReferenceIdeal.Equal.result_of_pre Cert.Pre_precondition.Gen.facts (Idealize.ShloMosaic.StableHlo.launchContents m' c) _ _ _ _ _ _ _ _ _ _ _ _ _ _ _ _ h0 h1 h2 h3 h4 h5 h6 h7 h8 h9 h10 h11 h12 h13 h14 h15 (hpre c)
  exact result_eq m (Idealize.ShloMosaic.StableHlo.launchContents m' c) c ts hts heq

/-- From memories whose arguments agree and meet the precondition, the kernel and the reference end with equal results. -/
theorem algebraic : @algebraic_KernelIdeal_ReferenceIdeal_pre_precondition Cert.KernelIdeal.Gen.facts Cert.ReferenceIdeal.Gen.facts Cert.Pre_precondition.Gen.facts := by
  intro m g m' g' hpre hagree
  have hk := Cert.KernelIdeal.Value.run_blocks (F := Ideal) m g
  have hr := Cert.ReferenceIdeal.Value.run (F := Ideal) m' g'
  have e := fun c => results_agree m m' hpre c (hagree c)
  refine ⟨_, hk, ?_⟩
  refine (θ_run Cert.ReferenceIdeal.defs _ _).mono (fun r h c => ?_) hr
  have hc := h c
  exact ⟨hc.1.trans (e c), hc.2⟩

/-- Everything that the statement claims. -/
theorem claim : Cert.Claim :=
  ⟨Cert.Kernel.Gen.facts, Cert.KernelIdeal.Gen.facts, Cert.ReferenceIdeal.Gen.facts, Cert.Pre_precondition.Gen.facts,
    fun m ρ _ => Cert.Kernel.Gen.frame m ρ, fun m ρ _ => Cert.KernelIdeal.Gen.frame m ρ,
    fun m ρ _ => Cert.KernelIdeal.Gen.frame m ρ,
    fun m ρ _ => (θ_run Cert.ReferenceIdeal.defs _ _).mono (fun r h => ⟨fun c => (h c).2, sem_eq_zero_of_no_sems (by decide) r.2⟩) (Cert.ReferenceIdeal.Value.run m ρ),
    fun m ρ _ => (θ_run Cert.ReferenceIdeal.defs _ _).mono (fun r h => ⟨fun c => (h c).2, sem_eq_zero_of_no_sems (by decide) r.2⟩) (Cert.ReferenceIdeal.Value.run m ρ),
    trivial, algebraic⟩

end Cert.Proof

end
